-- ==== Defs.lean ====
def Pre_Kernel [hPre_index_in_range : Cert.Pre_index_in_range.Facts] (m : (ℓ : Loc Cert.Kernel.nD Cert.Kernel.τ Cert.Kernel.sig) → Buf (Elt Bits) ℓ) : Prop :=
  ∀ c : Dev Cert.Kernel.nD,
    (Cert.Pre_index_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_index_in_range : Cert.Pre_index_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_index_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_in_range [hPre_index_in_range : Cert.Pre_index_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_index_in_range : Cert.Pre_index_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_index_in_range : Cert.Pre_index_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_index_in_range [hReferenceIdeal : Cert.ReferenceIdeal.Facts] [hPre_index_in_range : Cert.Pre_index_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_index_in_range : Cert.Pre_index_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_index_in_range : Cert.Pre_index_in_range.Facts),
    quiescent_Kernel (hKernel := hKernel) (hPre_index_in_range := hPre_index_in_range)
    ∧ quiescent_KernelIdeal (hKernelIdeal := hKernelIdeal) (hPre_index_in_range := hPre_index_in_range)
    ∧ quiescent_ReferenceIdeal (hReferenceIdeal := hReferenceIdeal)
    ∧ quiescent_ReferenceIdeal_pre_index_in_range (hReferenceIdeal := hReferenceIdeal) (hPre_index_in_range := hPre_index_in_range)
    ∧ preserves_Kernel_KernelIdeal
    ∧ algebraic_KernelIdeal_ReferenceIdeal (hKernelIdeal := hKernelIdeal) (hReferenceIdeal := hReferenceIdeal) (hPre_index_in_range := hPre_index_in_range)
-- ==== Pre_index_in_range.lean ====
abbrev S1024x8x64 : Shape := ⟨3, ![1024, 8, 64]⟩
abbrev S32x128 : Shape := ⟨2, ![32, 128]⟩
abbrev S128 : Shape := ⟨1, ![128]⟩
abbrev S_ : Shape := ⟨0, ![]⟩

class Facts : Prop where
  bcast_S_S1024x8x64 : S_.BroadcastsInDim S1024x8x64 (![] : Fin 0 → Fin S1024x8x64.rank)
  reducesTo_S1024x8x64_S_d0_1_2 : S1024x8x64.ReducesTo [0, 1, 2] S_
  h_S_ : 0 < S_.numel

variable [Facts]

def fn {F : FTy → Type} [FloatOps F] (main_arg0 : IVec S1024x8x64 32) (main_arg1 : FVec F S32x128 .f32) (main_arg2 : FVec F S128 .f32) : IVec S_ 1 :=
  let main_c : IVec S_ 32 := constantI S_ 32 0#32
  let main_v0 : IVec S1024x8x64 32 := broadcastInDim S1024x8x64 ![] bcast_S_S1024x8x64 main_c
  let main_v1 : IVec S1024x8x64 1 := cmpi .sge main_arg0 main_v0
  let main_c_0 : IVec S_ 32 := constantI S_ 32 32#32
  let main_v2 : IVec S1024x8x64 32 := broadcastInDim S1024x8x64 ![] bcast_S_S1024x8x64 main_c_0
  let main_v3 : IVec S1024x8x64 1 := cmpi .slt main_arg0 main_v2
  let main_v4 : IVec S1024x8x64 1 := andi main_v1 main_v3
  let main_c_1 : IVec S_ 1 := constantI S_ 1 1#1
  let main_v5 : IVec S_ 1 := (fun x v => Host.reduce IntOp.andi x v reducesTo_S1024x8x64_S_d0_1_2 h_S_) main_v4 main_c_1
  main_v5
-- ==== Kernel.lean ====
abbrev S1024x8x64 : Shape := ⟨3, ![1024, 8, 64]⟩
abbrev S32x128 : Shape := ⟨2, ![32, 128]⟩
abbrev S128 : Shape := ⟨1, ![128]⟩
abbrev S1x128 : Shape := ⟨2, ![1, 128]⟩
abbrev S32x128x128 : Shape := ⟨3, ![32, 128, 128]⟩
abbrev S524288x128 : Shape := ⟨2, ![524288, 128]⟩
abbrev S128x128 : Shape := ⟨2, ![128, 128]⟩
abbrev S_ : Shape := ⟨0, ![]⟩
abbrev S1x128x128 : Shape := ⟨3, ![1, 128, 128]⟩
abbrev S1024x8x64x128 : Shape := ⟨4, ![1024, 8, 64, 128]⟩

abbrev nBuf : Table → Nat
  | .hbm => 8
  | .local .tc .vmem => 3
  | .local .scVector .vmem => 2
  | _ => 0

abbrev bufTy : (tb : Table) → Fin (nBuf tb) → BufTy
  | .hbm, ⟨0, _⟩ => ⟨S1024x8x64, .i32⟩
  | .hbm, ⟨1, _⟩ => ⟨S32x128, .f32⟩
  | .hbm, ⟨2, _⟩ => ⟨S128, .f32⟩
  | .hbm, ⟨3, _⟩ => ⟨S1x128, .f32⟩
  | .hbm, ⟨4, _⟩ => ⟨S32x128, .f32⟩
  | .hbm, ⟨5, _⟩ => ⟨S32x128x128, .i32⟩
  | .hbm, ⟨6, _⟩ => ⟨S524288x128, .f32⟩
  | .hbm, ⟨7, _⟩ => ⟨S1024x8x64x128, .f32⟩
  | .local .tc .vmem, ⟨0, _⟩ => ⟨S32x128, .f32⟩
  | .local .tc .vmem, ⟨1, _⟩ => ⟨S1x128, .f32⟩
  | .local .tc .vmem, ⟨2, _⟩ => ⟨S32x128, .f32⟩
  | .local .scVector .vmem, ⟨0, _⟩ => ⟨S128x128, .i32⟩
  | .local .scVector .vmem, ⟨1, _⟩ => ⟨S128x128, .f32⟩
  | _, _ => ⟨S1024x8x64, .i32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => true
  | ⟨1, _⟩ => true
  | ⟨2, _⟩ => true
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  let c0_i32_3_r0 : BitVec 32 := 0#32
  ![v1.toNat, 0, 0]
@[reducible] def k1_t1_loop : Scf.Loop 32 :=
  let c0_i32_0 : BitVec 32 := 0#32
  let c128_i32 : BitVec 32 := 128#32
  let v2 : BitVec 32 := Scalar.addi c0_i32_0 c128_i32
  let c1_i32 : BitVec 32 := 1#32
  ⟨c0_i32_0, v2, c1_i32⟩
def k1_off2 (k1_t1 : Fin k1_t1_loop.trips) : Fin 2 → Nat :=
  let c0_i32_0 : BitVec 32 := 0#32
  let c1_i32 : BitVec 32 := 1#32
  let arg8 : BitVec 32 := Scf.iv c0_i32_0 c1_i32 k1_t1
  let c0_i32_2 : BitVec 32 := 0#32
  ![arg8.toNat, 0]
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v9 : BitVec 32 := Scalar.muli v1 c16384_i32
  let c0_i32_0 : BitVec 32 := 0#32
  let c1_i32 : BitVec 32 := 1#32
  let arg8 : BitVec 32 := Scf.iv c0_i32_0 c1_i32 k1_t1
  let c128_i32_8 : BitVec 32 := 128#32
  let v10 : BitVec 32 := Scalar.muli arg8 c128_i32_8
  let v11 : BitVec 32 := Scalar.addi v9 v10
  let c0_i32_9_r1 : BitVec 32 := 0#32
  ![v11.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x8x64 : Shape := ⟨3, ![1024, 8, 64]⟩
abbrev S32x128 : Shape := ⟨2, ![32, 128]⟩
abbrev S128 : Shape := ⟨1, ![128]⟩
abbrev S1024 : Shape := ⟨1, ![1024]⟩
abbrev S1024x1x1 : Shape := ⟨3, ![1024, 1, 1]⟩
abbrev S8 : Shape := ⟨1, ![8]⟩
abbrev S1x8x1 : Shape := ⟨3, ![1, 8, 1]⟩
abbrev S64 : Shape := ⟨1, ![64]⟩
abbrev S1x1x64 : Shape := ⟨3, ![1, 1, 64]⟩
abbrev S_ : Shape := ⟨0, ![]⟩
abbrev S1024x8x64x32 : Shape := ⟨4, ![1024, 8, 64, 32]⟩
abbrev S1024x8x64x1 : Shape := ⟨4, ![1024, 8, 64, 1]⟩
abbrev S1024x8x64x4 : Shape := ⟨4, ![1024, 8, 64, 4]⟩
abbrev S1024x8x64x128 : Shape := ⟨4, ![1024, 8, 64, 128]⟩
abbrev S1x1x1x128 : Shape := ⟨4, ![1, 1, 1, 128]⟩

abbrev nBuf : Space → Nat
  | .hbm => 54
  | .vmem => 0
  | .smem => 0
  | _ => 0

abbrev bufTy : (tb : Table) → Fin (tcTables nBuf tb) → BufTy
  | .hbm, ⟨0, _⟩ => ⟨S1024x8x64, .i32⟩
  | .hbm, ⟨1, _⟩ => ⟨S32x128, .f32⟩
  | .hbm, ⟨2, _⟩ => ⟨S128, .f32⟩
  | .hbm, ⟨3, _⟩ => ⟨S1024, .i32⟩
  | .hbm, ⟨4, _⟩ => ⟨S1024x1x1, .i32⟩
  | .hbm, ⟨5, _⟩ => ⟨S8, .i32⟩
  | .hbm, ⟨6, _⟩ => ⟨S1x8x1, .i32⟩
  | .hbm, ⟨7, _⟩ => ⟨S64, .i32⟩
  | .hbm, ⟨8, _⟩ => ⟨S1x1x64, .i32⟩
  | .hbm, ⟨9, _⟩ => ⟨S_, .f32⟩
  | .hbm, ⟨10, _⟩ => ⟨S1024x8x64x32, .f32⟩
  | .hbm, ⟨11, _⟩ => ⟨S_, .i32⟩
  | .hbm, ⟨12, _⟩ => ⟨S1024x1x1, .i32⟩
  | .hbm, ⟨13, _⟩ => ⟨S1024x1x1, .i1⟩
  | .hbm, ⟨14, _⟩ => ⟨S_, .i32⟩
  | .hbm, ⟨15, _⟩ => ⟨S1024x1x1, .i32⟩
  | .hbm, ⟨16, _⟩ => ⟨S1024x1x1, .i32⟩
  | .hbm, ⟨17, _⟩ => ⟨S1024x1x1, .i32⟩
  | .hbm, ⟨18, _⟩ => ⟨S_, .i32⟩
  | .hbm, ⟨19, _⟩ => ⟨S1x8x1, .i32⟩
  | .hbm, ⟨20, _⟩ => ⟨S1x8x1, .i1⟩
  | .hbm, ⟨21, _⟩ => ⟨S_, .i32⟩
  | .hbm, ⟨22, _⟩ => ⟨S1x8x1, .i32⟩
  | .hbm, ⟨23, _⟩ => ⟨S1x8x1, .i32⟩
  | .hbm, ⟨24, _⟩ => ⟨S1x8x1, .i32⟩
  | .hbm, ⟨25, _⟩ => ⟨S_, .i32⟩
  | .hbm, ⟨26, _⟩ => ⟨S1x1x64, .i32⟩
  | .hbm, ⟨27, _⟩ => ⟨S1x1x64, .i1⟩
  | .hbm, ⟨28, _⟩ => ⟨S_, .i32⟩
  | .hbm, ⟨29, _⟩ => ⟨S1x1x64, .i32⟩
  | .hbm, ⟨30, _⟩ => ⟨S1x1x64, .i32⟩
  | .hbm, ⟨31, _⟩ => ⟨S1x1x64, .i32⟩
  | .hbm, ⟨32, _⟩ => ⟨S_, .i32⟩
  | .hbm, ⟨33, _⟩ => ⟨S1024x8x64, .i32⟩
  | .hbm, ⟨34, _⟩ => ⟨S1024x8x64, .i1⟩
  | .hbm, ⟨35, _⟩ => ⟨S_, .i32⟩
  | .hbm, ⟨36, _⟩ => ⟨S1024x8x64, .i32⟩
  | .hbm, ⟨37, _⟩ => ⟨S1024x8x64, .i32⟩
  | .hbm, ⟨38, _⟩ => ⟨S1024x8x64, .i32⟩
  | .hbm, ⟨39, _⟩ => ⟨S1024x8x64, .i32⟩
  | .hbm, ⟨40, _⟩ => ⟨S1024x8x64, .i32⟩
  | .hbm, ⟨41, _⟩ => ⟨S1024x8x64, .i32⟩
  | .hbm, ⟨42, _⟩ => ⟨S1024x8x64x1, .i32⟩
  | .hbm, ⟨43, _⟩ => ⟨S1024x8x64x1, .i32⟩
  | .hbm, ⟨44, _⟩ => ⟨S1024x8x64x1, .i32⟩
  | .hbm, ⟨45, _⟩ => ⟨S1024x8x64x1, .i32⟩
  | .hbm, ⟨46, _⟩ => ⟨S1024x8x64x4, .i32⟩
  | .hbm, ⟨47, _⟩ => ⟨S_, .f32⟩
  | .hbm, ⟨48, _⟩ => ⟨S1024x8x64, .f32⟩
  | .hbm, ⟨49, _⟩ => ⟨S1024x8x64x32, .f32⟩
  | .hbm, ⟨50, _⟩ => ⟨S1024x8x64x128, .f32⟩
  | .hbm, ⟨51, _⟩ => ⟨S1x1x1x128, .f32⟩
  | .hbm, ⟨52, _⟩ => ⟨S1024x8x64x128, .f32⟩
  | .hbm, ⟨53, _⟩ => ⟨S1024x8x64x128, .f32⟩
  | _, _ => ⟨S1024x8x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Proof.KernelIdealTile.lean ====
/-
  One vector subcore's part of `KernelIdeal`'s SparseCore call, at a symbolic SparseCore and subcore.

  Worker `w = 2 * subcore + SparseCore` owns row `w` of the index array (128 rows of 128 words) and rows
  `16384 * w … 16384 * w + 16383` of the output. It fetches its index row, then makes 128 trips: trip `t` gathers the
  128 table rows that line `t` of the fetched words names and writes them out as output rows
  `16384 * w + 128 * t …`. The invariant of the trips carries the values: the rows below `16384 * w + 128 * t` hold the
  table rows their words name (`gathered`), the others what they held at the start.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.ValueIdxCore
public import Idealize.ShloMosaic.Lib.ValueLayout
public import Idealize.ShloMosaic.Lib.Tactic
public import proofs.«01_k».proof.Proof.Gen.KernelIdeal
public import proofs.«01_k».proof.Proof.Gen.KernelIdeal.Skeleton

@[expose] public section

noncomputable section

namespace Cert.Proof.OfKernelIdeal

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The values -/

/-- A word as a row of the 32-row table. -/
def rowOfWord (v : BitVec 32) : Fin 32 := ⟨v.toNat % 32, Nat.mod_lt _ (by decide)⟩

/-- Where output row `n`'s word stands in the index array. -/
def wordIx (n : Fin 524288) : S32x128x128.Idx :=
  ix3 (⟨n.val / 16384, by omega⟩ : Fin 32) (⟨n.val % 16384 / 128, by omega⟩ : Fin 128) (⟨n.val % 128, by omega⟩ : Fin 128)

/-- The output the call computes: row `n` is the table row that row `n`'s word names. -/
def gathered (tb : S32x128.Idx → Elt F .f32) (ix : S32x128x128.Idx → Elt F .i32) : S524288x128.Idx → Elt F .f32 :=
  fun j => tb (ix2 (rowOfWord (ix (wordIx (j 0)))) (j 1))

/-- The output while it is being written: rows below `n` done, the others as they were. -/
def upTo (tb : S32x128.Idx → Elt F .f32) (ix : S32x128x128.Idx → Elt F .i32) (o : S524288x128.Idx → Elt F .f32) (n : ℕ) :
    S524288x128.Idx → Elt F .f32 :=
  fun j => if (j 0).val < n then gathered tb ix j else o j

/-! ## The program as the launch theorem sees it -/

abbrev ΛP : Labels := Pipeline.Sig Λ₀ (Fin 1) fun p => (pcfgs (F := F) p).Adm
abbrev K : SparseCore.Cfg τ sig (ΛP (F := F)) 1 := sc (F := F)
abbrev 𝒱₀ : Variants := Variants.none

/-- The ghost state: the launch handshakes, the table kernel's staging rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-! ## The buffers -/

abbrev tLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3

local notation "tV" => (Memref.whole Cert.KernelIdeal.main_v1_scv : Memref Cert.KernelIdeal.sig Kind.scVector Space.hbm Cert.KernelIdeal.S32x128 EltTy.f32)
local notation "iV" => (Memref.whole Cert.KernelIdeal.main_v2_scv : Memref Cert.KernelIdeal.sig Kind.scVector Space.hbm Cert.KernelIdeal.S32x128x128 EltTy.i32)
local notation "oV" => (Memref.whole Cert.KernelIdeal.main_v3_scv : Memref Cert.KernelIdeal.sig Kind.scVector Space.hbm Cert.KernelIdeal.S524288x128 EltTy.f32)
local notation "sV" => (Memref.whole Cert.KernelIdeal.cc1_scratch0 : Memref Cert.KernelIdeal.sig Kind.scVector Space.vmem Cert.KernelIdeal.S128x128 EltTy.i32)
local notation "rV" => (Memref.whole Cert.KernelIdeal.cc1_scratch1 : Memref Cert.KernelIdeal.sig Kind.scVector Space.vmem Cert.KernelIdeal.S128x128 EltTy.f32)

/-- Worker `w`'s part of the index array and of the output; output rows `128 * k …`. -/
def iSet (w : ℕ) : Finset S32x128x128.Idx := Finset.univ.filter fun j => (j 0).val = w
def oSet (w : ℕ) : Finset S524288x128.Idx := Finset.univ.filter fun j => (j 0).val / 16384 = w

/-- Worker `w`'s share of the table. -/
abbrev tq (w : ℕ) : PosShare TreeShare := Transfers.shareTokN fullShare w

/-- What worker `w` is handed, and what it brings back. -/
abbrev pieceIn (d : Dev nD) (tb : S32x128.Idx → Elt F .f32) (ix : S32x128x128.Idx → Elt F .i32) (o : S524288x128.Idx → Elt F .f32) (w : ℕ) : sProp 𝕄 :=
  iprop((iLoc d ↦[iSet w]{fullShare} ix) ∗ (tLoc d ↦{tq w} tb) ∗ oLoc d ↦[oSet w]{fullShare} o)

/-! ## The worker's memrefs -/

section Tile

variable (d : Dev nD) (L : grid1.Coords)

abbrev cV (L : grid1.Coords) : Fin τ.nSC := (L 0).castLE hcore1
abbrev jV (L : grid1.Coords) : Fin τ.nSub := (L 1).castLE hsub1
/-- The worker's number. -/
abbrev wL (L : grid1.Coords) : ℕ := 2 * (L 1).val + (L 0).val

theorem wL_lt : wL L < 32 := by
  have h0 : (L 0).val < 2 := (L 0).isLt
  have h1 : (L 1).val < 16 := (L 1).isLt
  unfold wL; omega

abbrev iRowK : Memref sig .scVector .hbm S128x128 .i32 :=
  ((iV).slice (Rect.unit (s := S32x128x128) (k1_off1 L) S1x128x128.size (k1_off1_inb L)) (fun _ => rfl)).squeeze S128x128 squeezes_S1x128x128_S128x128
abbrev tAllK : Memref sig .scVector .hbm S32x128 .f32 := (tV).slice (Rect.unit (s := S32x128) ![0, 0] S32x128.size inb_S32x128_S32x128_0_0) (fun _ => rfl)
abbrev lineK (t : Fin k1_t1_loop.trips) : Memref sig .scVector .vmem S128 .i32 :=
  ((sV).slice (Rect.unit (s := S128x128) (k1_off2 t) S1x128.size (k1_off2_inb t)) (fun _ => rfl)).squeeze S128 squeezes_S1x128_S128
abbrev chunkK (t : Fin k1_t1_loop.trips) : Memref sig .scVector .hbm S128x128 .f32 :=
  (oV).slice (Rect.unit (s := S524288x128) (k1_off3 L t) S128x128.size (k1_off3_inb L t)) (fun _ => rfl)

theorem trips_eq : k1_t1_loop.trips = 128 := by decide
theorem trip_lt (t : Fin k1_t1_loop.trips) : t.val < 128 := lt_of_lt_of_eq t.isLt trips_eq

theorem set_iRowK : (iRowK L).view.set = iSet (wL L) := by
  show (((iV).view.slice (Rect.unit (s := S32x128x128) (k1_off1 L) S1x128x128.size (k1_off1_inb L))).reshape S128x128 squeezes_S1x128x128_S128x128.numel_eq).set = _
  rw [View.set_reshape]
  refine (View.set_slice_whole main_v2_scv _).trans ?_
  ext j
  refine Rect.mem_set_unit.trans ?_
  rw [k1_off1_eq]
  simp only [iSet, Finset.mem_filter, Finset.mem_univ, true_and]
  have h1 : (j 1).val < 128 := (j 1).isLt
  have h2 : (j 2).val < 128 := (j 2).isLt
  constructor
  · intro h; have h0 := h 0; simp at h0; show (j 0).val = _; unfold wL; omega
  · intro h a
    match a with
    | 0 => simp only [Matrix.cons_val_zero]; unfold wL at h; omega
    | 1 => simp; omega
    | 2 => simp; omega

theorem mem_chunkK (t : Fin k1_t1_loop.trips) (j : S524288x128.Idx) :
    j ∈ (chunkK L t).view.set ↔ 16384 * wL L + 128 * t.val ≤ (j 0).val ∧ (j 0).val < 16384 * wL L + 128 * (t.val + 1) := by
  show j ∈ ((View.whole main_v3_scv).slice (Rect.unit (s := S524288x128) (k1_off3 L t) S128x128.size (k1_off3_inb L t))).set ↔ _
  rw [View.set_slice_whole]
  refine Rect.mem_set_unit.trans ?_
  rw [k1_off3_eq]
  have h1 : (j 1).val < 128 := (j 1).isLt
  constructor
  · intro h; have h0 := h 0; simp at h0; unfold wL; omega
  · intro h a
    unfold wL at h
    match a with
    | 0 => simp; omega
    | 1 => simp; omega

theorem chunkK_sub (t : Fin k1_t1_loop.trips) : (chunkK L t).view.set ⊆ oSet (wL L) := fun j hj => by
  have h := (mem_chunkK L t j).mp hj
  have := trip_lt t
  simp only [oSet, Finset.mem_filter, Finset.mem_univ, true_and]
  omega

/-- Element `x` of trip `t`'s chunk is output row `16384 * w + 128 * t + x 0`. -/
theorem emb_chunkK (t : Fin k1_t1_loop.trips) (x : S128x128.Idx) :
    (((chunkK L t).view.emb x : S524288x128.Idx) 0).val = 16384 * wL L + 128 * t.val + (x 0).val
      ∧ (((chunkK L t).view.emb x : S524288x128.Idx) 1).val = (x 1).val := by
  have e : ∀ a, (((chunkK L t).view.emb x : S524288x128.Idx) a).val = k1_off3 L t a + 1 * (x a).val := fun a => rfl
  refine ⟨?_, ?_⟩
  · rw [e, k1_off3_eq]; unfold wL; simp; omega
  · rw [e, k1_off3_eq]; simp

/-- The worker's words: element `(a, b)` of its index row is word `(w, a, b)` of the index array. -/
theorem read_iRowK (ix : S32x128x128.Idx → Elt F .i32) (a b : Fin 128) :
    (iRowK L).view.read (Elt F) ix (ix2 a b) = ix (ix3 (⟨wL L, wL_lt L⟩ : Fin 32) a b) := by
  have e : (iRowK L).view.read (Elt F) ix (ix2 a b) = ix ((iRowK L).view.emb (ix2 a b)) := (View.read_apply _ _).trans (cast_eq _ _)
  rw [e]
  congr 1
  show (Rect.unit (s := S32x128x128) (k1_off1 L) S1x128x128.size (k1_off1_inb L)).emb
      (Shape.reshapeEquiv squeezes_S1x128x128_S128x128.numel_eq (ix2 a b)) = _
  rw [reshapeEquiv_ix2_1ab]
  funext k
  apply Fin.ext
  rw [Rect.emb_apply]
  match k with
  | 0 => show k1_off1 L 0 + 1 * 0 = _; rw [k1_off1_eq]; rfl
  | 1 => show k1_off1 L 1 + 1 * a.val = _; rw [k1_off1_eq]; simp
  | 2 => show k1_off1 L 2 + 1 * b.val = _; rw [k1_off1_eq]; simp

/-- Trip `t`'s list is line `t` of the fetched words. -/
theorem read_lineK (t : Fin k1_t1_loop.trips) (fo : S128x128.Idx → Elt F .i32) (x : S128.Idx) :
    (lineK t).view.read (Elt F) fo x = fo (ix2 (⟨t.val, trip_lt t⟩ : Fin 128) (x 0)) := by
  obtain ⟨b, rfl⟩ : ∃ b : Fin 128, x = ix1 b := ⟨x 0, eq_ix1 x⟩
  have e : (lineK t).view.read (Elt F) fo (ix1 b) = fo ((lineK t).view.emb (ix1 b)) := (View.read_apply _ _).trans (cast_eq _ _)
  rw [e]
  congr 1
  show (Rect.unit (s := S128x128) (k1_off2 t) S1x128.size (k1_off2_inb t)).emb
      (Shape.reshapeEquiv squeezes_S1x128_S128.numel_eq (ix1 b)) = _
  have hr : Shape.reshapeEquiv squeezes_S1x128_S128.numel_eq (ix1 b : S128.Idx) = (ix2 (0 : Fin 1) b : S1x128.Idx) :=
    Shape.reshapeEquiv_eq_of_rowMajor _ (by
      rw [Shape.rowMajor_val_two, Shape.rowMajor_val_one]
      show 0 * 128 + b.val = b.val
      omega)
  rw [hr]
  funext k
  apply Fin.ext
  rw [Rect.emb_apply]
  match k with
  | 0 => show k1_off2 t 0 + 1 * 0 = _; rw [k1_off2_eq]; rfl
  | 1 => show k1_off2 t 1 + 1 * b.val = _; rw [k1_off2_eq]; simp

/-- The table as the gather addresses it is the table. -/
theorem read_tAllK (tb : S32x128.Idx → Elt F .f32) (y : S32x128.Idx) : tAllK.view.read (Elt F) tb y = tb y := by
  have e : tAllK.view.read (Elt F) tb y = tb (tAllK.view.emb y) := (View.read_apply _ _).trans (cast_eq _ _)
  rw [e]
  congr 1
  funext k
  apply Fin.ext
  match k with
  | 0 => show 0 + 1 * (y 0).val = _; omega
  | 1 => show 0 + 1 * (y 1).val = _; omega

/-- The worker's fetched words. -/
def words (ix : S32x128x128.Idx → Elt F .i32) : S128x128.Idx → Elt F .i32 := fun y => ix (ix3 (⟨wL L, wL_lt L⟩ : Fin 32) (y 0) (y 1))

theorem read_iRowK_eq (ix : S32x128x128.Idx → Elt F .i32) : (iRowK L).view.read (Elt F) ix = words L ix := by
  funext y
  rw [eq_ix2 y]
  exact read_iRowK L ix _ _

/-- Every word of a trip's list names a table row. -/
theorem list_inb (ix : S32x128x128.Idx → Elt F .i32) (hix : ∀ j, BitVec.toNat (w := 32) (ix j) < 32) (t : Fin k1_t1_loop.trips) :
    ∀ x, ((lineK t).view.read (Elt F) (words L ix) x).toNat < S32x128.size gathers_S32x128_S128x128.axis := fun x => by
  have e := read_lineK (F := F) t (words L ix) x
  exact lt_of_eq_of_lt (congrArg (BitVec.toNat (w := 32)) e) (hix _)

/-- A trip's payload is its chunk of the output the call computes. -/
theorem payload_eq (tb : S32x128.Idx → Elt F .f32) (ix : S32x128x128.Idx → Elt F .i32) (hix : ∀ j, BitVec.toNat (w := 32) (ix j) < 32)
    (t : Fin k1_t1_loop.trips) (x : S128x128.Idx) (hin : ∀ x, ((lineK t).view.read (Elt F) (words L ix) x).toNat < S32x128.size gathers_S32x128_S128x128.axis) :
    SparseCore.gatherPayload gathers_S32x128_S128x128 (tAllK.view.read (Elt F) tb)
        (SparseCore.rows ((lineK t).view.read (Elt F) (words L ix)) rfl hin) x
      = gathered tb ix ((chunkK L t).view.emb x) := by
  obtain ⟨e0, e1⟩ := emb_chunkK L t x
  have ht := trip_lt t
  have hx0 : (x 0).val < 128 := (x 0).isLt
  have hw := wL_lt L
  unfold SparseCore.gatherPayload
  rw [read_tAllK]
  unfold gathered
  congr 1
  funext k
  apply Fin.ext
  match k with
  | 0 =>
    have hk : gathers_S32x128_S128x128.idx (SparseCore.rows ((lineK t).view.read (Elt F) (words L ix)) rfl hin) x 0
        = SparseCore.rows ((lineK t).view.read (Elt F) (words L ix)) rfl hin (x 0) :=
      Shape.Gathers.idx_axis gathers_S32x128_S128x128 _ x
    refine (congrArg Fin.val hk).trans ?_
    have hs : S128.rowMajor.symm (Fin.cast (rfl : 128 = S128.numel) (x 0)) = (ix1 (x 0) : S128.Idx) :=
      (Equiv.symm_apply_eq _).mpr (Fin.ext (by rw [Shape.rowMajor_val_one]; rfl))
    have hr := (congrArg ((lineK t).view.read (Elt F) (words L ix)) hs).trans (read_lineK (F := F) t (words L ix) (ix1 (x 0)))
    refine (congrArg (BitVec.toNat (w := 32)) hr).trans ?_
    have hwi : wordIx (((chunkK L t).view.emb x : S524288x128.Idx) 0)
        = ix3 (⟨wL L, wL_lt L⟩ : Fin 32) (⟨t.val, ht⟩ : Fin 128) (x 0) := by
      unfold wordIx
      congr 1 <;> apply Fin.ext <;> simp only [] <;> rw [e0] <;> omega
    show _ = (rowOfWord (ix (wordIx (((chunkK L t).view.emb x : S524288x128.Idx) 0)))).val
    rw [hwi]
    exact (Nat.mod_eq_of_lt (hix _)).symm
  | 1 =>
    refine (Shape.Gathers.idx_of_ne gathers_S32x128_S128x128 _ x 1 (by decide)).trans ?_
    exact e1.symm

end Tile

end Cert.Proof.OfKernelIdeal

end
-- ==== Proof.KernelIdealBody.lean ====
/-
  The run of one vector subcore through `KernelIdeal`'s SparseCore call (`tile_body`): the index fetch, then the 128 trips by
  one lemma (`trip_body`) at a symbolic trip, whose invariant carries the words fetched and the output rows done.
-/
module

public import proofs.«01_k».proof.Proof.KernelIdealTile

@[expose] public section

noncomputable section

namespace Cert.Proof.OfKernelIdeal

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v1_scv : Memref Cert.KernelIdeal.sig Kind.scVector Space.hbm Cert.KernelIdeal.S32x128 EltTy.f32)
local notation "iV" => (Memref.whole Cert.KernelIdeal.main_v2_scv : Memref Cert.KernelIdeal.sig Kind.scVector Space.hbm Cert.KernelIdeal.S32x128x128 EltTy.i32)
local notation "oV" => (Memref.whole Cert.KernelIdeal.main_v3_scv : Memref Cert.KernelIdeal.sig Kind.scVector Space.hbm Cert.KernelIdeal.S524288x128 EltTy.f32)
local notation "sV" => (Memref.whole Cert.KernelIdeal.cc1_scratch0 : Memref Cert.KernelIdeal.sig Kind.scVector Space.vmem Cert.KernelIdeal.S128x128 EltTy.i32)
local notation "rV" => (Memref.whole Cert.KernelIdeal.cc1_scratch1 : Memref Cert.KernelIdeal.sig Kind.scVector Space.vmem Cert.KernelIdeal.S128x128 EltTy.f32)

variable (d : Dev nD) (L : grid1.Coords)

/-- The worker's thread. -/
abbrev thrL : Thread nD τ := V d (cV L) (jV L)

/-- Writing a trip's chunk advances the rows done by 128. -/
theorem upTo_step (tb : S32x128.Idx → Elt F .f32) (ix : S32x128x128.Idx → Elt F .i32) (o : S524288x128.Idx → Elt F .f32)
    (t : Fin k1_t1_loop.trips) (pay : S128x128.Idx → Elt F .f32) (hpay : ∀ x, pay x = gathered tb ix ((chunkK L t).view.emb x))
    (j : S524288x128.Idx) (hj : j ∈ (chunkK L t).view.set) :
    (chunkK L t).view.writes (Elt F) (upTo tb ix o (16384 * wL L + 128 * t.val)) [⟨Rect.whole S128x128, pay⟩] j
      = upTo tb ix o (16384 * wL L + 128 * (t.val + 1)) j := by
  have hm := (mem_chunkK L t j).mp hj
  obtain ⟨x, -, rfl⟩ := Finset.mem_map.mp hj
  have hx : ((chunkK L t).view.slice (Rect.whole S128x128)).emb x = (chunkK L t).view.emb x :=
    congrArg (chunkK L t).view.emb (funext fun a => Fin.ext (show 0 + 1 * (x a).val = (x a).val by omega))
  have hw := View.write_emb_of_mem (v := (chunkK L t).view.slice (Rect.whole S128x128))
    (upTo tb ix o (16384 * wL L + 128 * t.val)) pay (Finset.mem_univ x)
  rw [hx] at hw
  refine hw.trans ?_
  rw [cast_eq, hpay]
  unfold upTo
  exact (if_pos hm.2).symm

theorem upTo_rest (tb : S32x128.Idx → Elt F .f32) (ix : S32x128x128.Idx → Elt F .i32) (o : S524288x128.Idx → Elt F .f32)
    (t : Fin k1_t1_loop.trips) (j : S524288x128.Idx) (hj : j ∈ oSet (wL L) \ (chunkK L t).view.set) :
    upTo tb ix o (16384 * wL L + 128 * t.val) j = upTo tb ix o (16384 * wL L + 128 * (t.val + 1)) j := by
  have hn := fun h => (Finset.mem_sdiff.mp hj).2 ((mem_chunkK L t j).mpr h)
  unfold upTo
  by_cases h : (j 0).val < 16384 * wL L + 128 * t.val
  · rw [if_pos h, if_pos (by omega)]
  · rw [if_neg h, if_neg (fun h' => hn ⟨by omega, h'⟩)]

/-- Before the first trip nothing of the worker's rows is done; after the last, all of them. -/
theorem upTo_start (tb : S32x128.Idx → Elt F .f32) (ix : S32x128x128.Idx → Elt F .i32) (o : S524288x128.Idx → Elt F .f32)
    (j : S524288x128.Idx) (hj : j ∈ oSet (wL L)) : o j = upTo tb ix o (16384 * wL L + 128 * 0) j := by
  have h := (Finset.mem_filter.mp hj).2
  unfold upTo
  exact (if_neg (by omega)).symm

theorem upTo_end (tb : S32x128.Idx → Elt F .f32) (ix : S32x128x128.Idx → Elt F .i32) (o : S524288x128.Idx → Elt F .f32)
    (j : S524288x128.Idx) (hj : j ∈ oSet (wL L)) : upTo tb ix o (16384 * wL L + 128 * k1_t1_loop.trips) j = gathered tb ix j := by
  have h := (Finset.mem_filter.mp hj).2
  rw [trips_eq]
  unfold upTo
  exact if_pos (by omega)

/-! ## The worker's own buffers and cells -/

abbrev gCell : GSem nD τ sig := (thrL d L, .dma cc1_scratch2.sem)
abbrev fCell : GSem nD τ sig := (thrL d L, .dma cc1_scoped0.sem)
abbrev wCell : GSem nD τ sig := (thrL d L, .dma cc1_scoped1.sem)

theorem ownSems0_V :
    (ownSems0 (thrL d L) : sProp 𝕄)
      = iprop(semVal (gCell d L) 0 ∗ semVal (fCell d L) 0 ∗ semVal (wCell d L) 0
          ∗ bigSep ((((ownCells (thrL d L)).erase (gCell d L)).erase (fCell d L)).erase (wCell d L)) fun g => semVal g 0) := by
  unfold SparseCore.Cfg.ownSems0
  have hg : gCell d L ∈ ownCells (thrL d L) :=
    mem_ownCells.mpr ⟨rfl, show (SemLoc.dma cc1_scratch2.sem : SemLoc sig).isScoped .scVector = true by decide⟩
  have hf : fCell d L ∈ ownCells (thrL d L) :=
    mem_ownCells.mpr ⟨rfl, show (SemLoc.dma cc1_scoped0.sem : SemLoc sig).isScoped .scVector = true by decide⟩
  have hw : wCell d L ∈ ownCells (thrL d L) :=
    mem_ownCells.mpr ⟨rfl, show (SemLoc.dma cc1_scoped1.sem : SemLoc sig).isScoped .scVector = true by decide⟩
  have n1 : (fCell d L) ≠ gCell d L := by simp [gCell, fCell]; decide
  have n2 : (wCell d L) ≠ gCell d L := by simp [gCell, wCell]; decide
  have n3 : (wCell d L) ≠ fCell d L := by simp [fCell, wCell]; decide
  rw [SparseCore.bigSep_erase' hg, SparseCore.bigSep_erase' (Finset.mem_erase.mpr ⟨n1, hf⟩),
    SparseCore.bigSep_erase' (Finset.mem_erase.mpr ⟨n3, Finset.mem_erase.mpr ⟨n2, hw⟩⟩)]

theorem ownBufs_V :
    (ownBufs (thrL d L) : sProp 𝕄)
      = iprop((∃ f, (thrL d L).loc cc1_scratch0 ↦{fullShare} f) ∗ (∃ f, (thrL d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  have h0 : (Proc.scVector (cV L) (jV L)).devRef cc1_scratch0 ∈ ownRefs (τ := τ) (sig := sig) (.scVector (cV L) (jV L)) :=
    SparseCore.Cfg.mem_ownRefs_of_owner rfl
  have h1 : (Proc.scVector (cV L) (jV L)).devRef cc1_scratch1 ∈ ownRefs (τ := τ) (sig := sig) (.scVector (cV L) (jV L)) :=
    SparseCore.Cfg.mem_ownRefs_of_owner rfl
  have hne : (Proc.scVector (cV L) (jV L)).devRef cc1_scratch1 ≠ (Proc.scVector (cV L) (jV L)).devRef cc1_scratch0 :=
    fun e => absurd (Proc.devRef_injective _ e) (show (cc1_scratch1 : Ref sig .scVector) ≠ cc1_scratch0 by decide)
  refine (SparseCore.bigSep_erase' h0).trans ?_
  rw [SparseCore.bigSep_erase' (Finset.mem_erase.mpr ⟨hne, h1⟩)]

variable [FloatOps F]

/-! ## One trip -/

/-- Before trip `n`: the fetched words, the row buffer, the worker's share of the table, its output rows with those below
    `16384 * w + 128 * n` done, the gather's and the write-out's counters at zero, the debt with waits recorded beyond `W`
    only at index `none`. -/
def inv (tb : S32x128.Idx → Elt F .f32) (ix : S32x128x128.Idx → Elt F .i32) (o : S524288x128.Idx → Elt F .f32)
    (O : CellTallies nD τ sig (HIx 1)) (W : Waits sig (HIx 1)) (n : ℕ) (_ : PUnit) : sProp 𝕄 :=
  iprop(Transfers.MayWaits (thrL d L) (default : HIx 1) O
    ∗ ((sV).view.loc (thrL d L) ↦{fullShare} words L ix)
    ∗ (∃ f, (rV).view.loc (thrL d L) ↦{fullShare} f)
    ∗ ((tV).view.loc (thrL d L) ↦{tq (wL L)} tb)
    ∗ ((oV).view.loc (thrL d L) ↦[oSet (wL L)]{fullShare} upTo tb ix o (16384 * wL L + 128 * n))
    ∗ semVal (gCell d L) 0 ∗ semVal (wCell d L) 0
    ∗ ∃ W', ⌜∀ p ∈ W', p ∈ W ∨ p.2 = none⌝ ∗ owes (thrL d L) O W')

set_option maxHeartbeats 4000000 in
theorem trip_body (tb : S32x128.Idx → Elt F .f32) (ix : S32x128x128.Idx → Elt F .i32) (o : S524288x128.Idx → Elt F .f32)
    (hix : ∀ j, BitVec.toNat (w := 32) (ix j) < 32) (O : CellTallies nD τ sig (HIx 1)) (W : Waits sig (HIx 1))
    (t : Fin k1_t1_loop.trips) :
    inv d L tb ix o O W t.val ⟨⟩
      ⊢ wp frame (wpE (defs₀ (F := F)) 𝒱₀ (thrL d L) none) Set.univ
          (k1_t1_body L tV (Memref.isWhole_whole _) iV (Memref.isWhole_whole _) oV (Memref.isWhole_whole _)
            sV (Memref.isWhole_whole _) rV (Memref.isWhole_whole _) cc1_scratch2 cc1_scoped0 cc1_scoped1 t ⟨⟩)
          fun _ => inv d L tb ix o O W (t.val + 1) ⟨⟩ := by
  have hin := list_inb (F := F) L ix hix t
  have hrs : (rV).view.set = Finset.univ := View.set_whole _
  have hN : ∀ h : S32x128.Gathers 0 S128x128, ∑ j, ((rV).slice (S128x128.rowRect h.axis' j) (S128x128.stride_rowRect h.axis' j)).view.dmaCredit
      = (rV).view.dmaCredit := by decide
  have hT : ((tV).view.loc (thrL d L) ↦{tq (wL L)} tb : sProp 𝕄)
      ⊣⊢ iprop(((tAllK).view.loc (thrL d L) ↦[(tAllK).view.set]{tq (wL L)} tb)
        ∗ (tV).view.loc (thrL d L) ↦[Finset.univ \ (tAllK).view.set]{tq (wL L)} tb) := pointsTo_split_subset (Finset.subset_univ _)
  have hS : ((sV).view.loc (thrL d L) ↦{fullShare} words L ix : sProp 𝕄)
      ⊣⊢ iprop(((lineK t).view.loc (thrL d L) ↦[(lineK t).view.set]{fullShare} words L ix)
        ∗ (sV).view.loc (thrL d L) ↦[Finset.univ \ (lineK t).view.set]{fullShare} words L ix) := pointsTo_split_subset (Finset.subset_univ _)
  have hO : ((oV).view.loc (thrL d L) ↦[oSet (wL L)]{fullShare} upTo tb ix o (16384 * wL L + 128 * t.val) : sProp 𝕄)
      ⊣⊢ iprop(((chunkK L t).view.loc (thrL d L) ↦[(chunkK L t).view.set]{fullShare} upTo tb ix o (16384 * wL L + 128 * t.val))
        ∗ (oV).view.loc (thrL d L) ↦[oSet (wL L) \ (chunkK L t).view.set]{fullShare} upTo tb ix o (16384 * wL L + 128 * t.val)) :=
    pointsTo_split_subset (chunkK_sub L t)
  unfold inv k1_t1_body
  iintro ⟨#Hmw, Hs, ⟨%fr, Hr⟩, Ht, Ho, HsemG, HsemW, %W', %hW', HO⟩
  ihave Hts := hT.1 $$ Ht
  icases Hts with ⟨Hts, Htr⟩
  ihave Hss := hS.1 $$ Hs
  icases Hss with ⟨Hss, Hsr⟩
  ihave Hr' := (Entails.of_eq (show ((rV).view.loc (thrL d L) ↦{fullShare} fr : sProp 𝕄)
      = (rV).view.loc (thrL d L) ↦[(rV).view.set]{fullShare} fr by rw [hrs])) $$ Hr
  iapply (SparseCore.wp_indirectGatherLocal countersEmb 𝒱₀ (thrL d L) none (hg := gathers_S32x128_S128x128) (default : HIx 1)
      (rV).view.dmaCredit (hN _) (by decide) hin) $$ [Hts Hr' Hss HsemG]
  · isplitl [Hts]; · iexact Hts
    isplitl [Hr']; · iexact Hr'
    isplitl [Hss]; · iexact Hss
    iexact HsemG
  iintro Hfl
  sl_exec
  iapply (Transfers.wp_waitLocalO countersEmb 𝒱₀ (thrL d L) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hts, Hss⟩, HsemG, HO⟩
  ihave Ht := hT.2 $$ [Hts Htr]
  · isplitl [Hts] <;> iassumption
  ihave Hs := hS.2 $$ [Hss Hsr]
  · isplitl [Hss] <;> iassumption
  ihave Hr := (Entails.of_eq (show ((rV).view.loc (thrL d L) ↦[(rV).view.set]{fullShare} _ : sProp 𝕄)
      = (rV).view.loc (thrL d L) ↦{fullShare} _ by rw [hrs])) $$ Hr'
  ihave Hos := hO.1 $$ Ho
  icases Hos with ⟨Hoc, Hor⟩
  sl_exec (disch := exact View.amount_pos _ _ (show 0 < S128x128.numel by decide))
  sl_step
  have hpay : ∀ x, trip_body.sl.dma0 d L tb ix t hin fr x = gathered tb ix ((chunkK L t).view.emb x) := fun x => by
    refine Eq.trans ?_ (payload_eq L tb ix hix t x hin)
    show View.read (Elt F) (rV).view (View.write (Elt F) (rV).view fr _ Finset.univ) x = _
    rw [View.write_whole_univ]
    rfl
  have hO' : ((oV).view.loc (thrL d L) ↦[oSet (wL L)]{fullShare} upTo tb ix o (16384 * wL L + 128 * (t.val + 1)) : sProp 𝕄)
      ⊣⊢ iprop(((chunkK L t).view.loc (thrL d L) ↦[(chunkK L t).view.set]{fullShare} upTo tb ix o (16384 * wL L + 128 * (t.val + 1)))
        ∗ (oV).view.loc (thrL d L) ↦[oSet (wL L) \ (chunkK L t).view.set]{fullShare} upTo tb ix o (16384 * wL L + 128 * (t.val + 1))) :=
    pointsTo_split_subset (chunkK_sub L t)
  ihave Hoc := (Entails.of_eq (pointsTo_congr (upTo_step L tb ix o t _ hpay))) $$ Hoc
  ihave Hor := (Entails.of_eq (pointsTo_congr (upTo_rest L tb ix o t))) $$ Hor
  ihave Ho := hO'.2 $$ [Hoc Hor]
  · isplitl [Hoc] <;> iassumption
  isplitr; · iexact Hmw
  isplitl [Hs]; · iexact Hs
  isplitl [Hr]; · iexists _; iexact Hr
  isplitl [Ht]; · iexact Ht
  isplitl [Ho]; · iexact Ho
  isplitl [HsemG]; · iexact HsemG
  isplitl [HsemW]; · iexact HsemW
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ## The whole task -/

set_option maxHeartbeats 4000000 in
theorem tile_body (hF : (K (F := F)).Facts) (tb : S32x128.Idx → Elt F .f32) (ix : S32x128x128.Idx → Elt F .i32)
    (o : S524288x128.Idx → Elt F .f32) (hix : ∀ j, BitVec.toNat (w := 32) (ix j) < 32)
    (O : CellTallies nD τ sig (HIx 1)) (W : Waits sig (HIx 1)) (hO : ∀ g, O g none = 0) :
    iprop(levAts (K (F := F)).L (K (F := F)).lev ∗ emp ∗ pieceIn d tb ix o (wL L)
        ∗ scopedBufs (thrL d L) ∗ scopedSems0 (thrL d L) ∗ owes (thrL d L) O W)
      ⊢ wp frame (wpE (defs₀ (F := F)) 𝒱₀ (thrL d L) none) Set.univ
          (cc1__sc_gather L tV (Memref.isWhole_whole _) iV (Memref.isWhole_whole _) oV (Memref.isWhole_whole _)
            sV (Memref.isWhole_whole _) rV (Memref.isWhole_whole _) cc1_scratch2 cc1_scoped0 cc1_scoped1)
          fun _ => iprop(pieceIn d tb ix (gathered tb ix) (wL L)
            ∗ scopedBufs (thrL d L) ∗ scopedSems0 (thrL d L)
            ∗ ∃ W', ⌜∀ p ∈ W', p ∈ W ∨ p.2 = none⌝ ∗ owes (thrL d L) O W') := by
  simp only [cc1__sc_gather_eq_skeleton]; unfold cc1__sc_gather_skel
  rw [(K (F := F)).scopedBufs_V hF d (cV L) (jV L), SparseCore.Cfg.scopedSems0_V (Val := Elt F) d (cV L) (jV L), ownSems0_V, ownBufs_V]
  have hI : (iLoc d ↦[iSet (wL L)]{fullShare} ix : sProp 𝕄) = ((iRowK L).view.loc (thrL d L) ↦[(iRowK L).view.set]{fullShare} ix) := by
    rw [set_iRowK]
  iintro ⟨#Hlv, -, ⟨Hi, Ht, Ho⟩, ⟨⟨%fs, Hs⟩, ⟨%fr, Hr⟩, Hbufs⟩, ⟨HsemG, HsemF, HsemW, Hsems⟩, HO⟩
  ihave #Hmw := (show levAts (K (F := F)).L (K (F := F)).lev ⊢ Transfers.MayWaits (thrL d L) (default : HIx 1) O from
    (K (F := F)).mayWaits_none (thr := thrL d L) hO) $$ Hlv
  ihave Hi := (Entails.of_eq hI) $$ Hi
  ihave Hs := (show ((thrL d L).loc cc1_scratch0 ↦{fullShare} fs : sProp 𝕄) ⊢ ((sV).view.loc (thrL d L) ↦{fullShare} fs) from .rfl) $$ Hs
  ihave Hr := (show ((thrL d L).loc cc1_scratch1 ↦{fullShare} fr : sProp 𝕄) ⊢ ((rV).view.loc (thrL d L) ↦{fullShare} fr) from .rfl) $$ Hr
  ihave Ht := (show (tLoc d ↦{tq (wL L)} tb : sProp 𝕄) ⊢ ((tV).view.loc (thrL d L) ↦{tq (wL L)} tb) from .rfl) $$ Ht
  ihave Ho := (show (oLoc d ↦[oSet (wL L)]{fullShare} o : sProp 𝕄) ⊢ ((oV).view.loc (thrL d L) ↦[oSet (wL L)]{fullShare} o) from .rfl) $$ Ho
  sl_exec
  have hwords : View.write (Elt F) (sV).view fs (tile_body.sl.dma0 L ix) Finset.univ = words L ix := by
    rw [View.write_whole_univ]
    exact read_iRowK_eq L ix
  rw [hwords]
  ihave Ho := (Entails.of_eq (pointsTo_congr (upTo_start L tb ix o))) $$ Ho
  sl_for (inv d L tb ix o O W) $$ [Hs Hr Ht Ho HsemG HsemW HO]
  case region =>
    intro k _
    exact trip_body d L tb ix o hix O W k
  · unfold inv
    isplitr; · iexact Hmw
    isplitl [Hs]; · iexact Hs
    isplitl [Hr]; · iexists _; iexact Hr
    isplitl [Ht]; · iexact Ht
    isplitl [Ho]; · iexact Ho
    isplitl [HsemG]; · iexact HsemG
    isplitl [HsemW]; · iexact HsemW
    iexists _; isplitr
    swap; · iexact HO
    ipureintro; intro p hp
    rcases Finset.mem_insert.mp hp with hp | hp; · exact .inr (hp ▸ rfl)
    exact .inl hp
  iintro %_ HI
  unfold inv
  icases HI with ⟨-, Hs, ⟨%fr', Hr⟩, Ht, Ho, HsemG, HsemW, HO⟩
  sl_step
  ihave Hi := (Entails.of_eq hI.symm) $$ Hi
  ihave Ho := (Entails.of_eq (pointsTo_congr (upTo_end L tb ix o))) $$ Ho
  isplitl [Hi Ht Ho]
  · isplitl [Hi]; · iexact Hi
    isplitl [Ht]; · iexact Ht
    iexact Ho
  isplitl [Hs Hr Hbufs]
  · isplitl [Hs]; · iexists _; iexact Hs
    isplitl [Hr]; · iexists _; iexact Hr
    iexact Hbufs
  isplitl [HsemG HsemF HsemW Hsems]
  · isplitl [HsemG]; · iexact HsemG
    isplitl [HsemF]; · iexact HsemF
    isplitl [HsemW]; · iexact HsemW
    iexact Hsems
  iexact HO

end Cert.Proof.OfKernelIdeal

end
-- ==== Proof.KernelIdealTable.lean ====
/-
  The table kernel of `KernelIdeal` (TensorCore): one grid point, every array fetched and written back whole. From the
  32 rows and the one bias row it leaves `tableOf`: the bias row added to each of the 32 rows. It runs while the
  TensorCore already owes the SparseCores their start signals, which it neither pays nor adds to.
-/
module

public import proofs.«01_k».proof.Proof.KernelIdealBody
public import proofs.«01_k».proof.Proof.Gen.KernelIdeal.Launch
public import proofs.«01_k».proof.Proof.Gen.KernelIdeal.Points
public import Idealize.ShloMosaic.Lib.Pipeline.RegionArrays

@[expose] public section

noncomputable section

namespace Cert.Proof.OfKernelIdeal

open Cert.KernelIdeal Cert.KernelIdeal.Gen

open Idealize.ShloMosaic Idealize.ShloMosaic.TcCoe
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-- The table: the bias row added to every row. -/
abbrev tableOf (w : S32x128.Idx → Elt F .f32) (b : S1x128.Idx → Elt F .f32) : S32x128.Idx → Elt F .f32 := k0_pay1 w b

/-! ## The ghost state's embeddings -/

abbrev EH : Emb UH 𝕄 := embL
abbrev EP : Emb UP 𝕄 := (Emb.inl : Emb UP (UP × Counters)).trans embR

instance EP_landsIn : (EP : Emb UP 𝕄).LandsIn (upEmb : UEmb _ 𝕄) := by unfold EP; infer_instance

/-! ## The proof data -/

variable (w : Dev nD → S32x128.Idx → Elt F .f32) (b : Dev nD → S1x128.Idx → Elt F .f32) (t : Dev nD → S32x128.Idx → Elt F .f32)

/-- The three arrays at entry, and the three staging buffers after the one point. -/
def tArr (c : Dev nD) : (i : Fin cfg0.W) → Buf (Elt F) ((cfg0.win i).arr.view.loc (c.tc : Thread nD τ))
  | ⟨0, _⟩ => w c
  | ⟨1, _⟩ => b c
  | ⟨2, _⟩ => t c

def tAfter (c : Dev nD) : (i : Fin cfg0.W) → (cfg0.win i).block.Idx → Elt F (cfg0.win i).elt
  | ⟨0, _⟩ => w c
  | ⟨1, _⟩ => b c
  | ⟨2, _⟩ => tableOf (w c) (b c)

abbrev adm (p : Fin 1) : (pcfgs (F := F) p).Adm := (cfgs p).toPCfg_adm

/-- What the TensorCore owes throughout. -/
abbrev tOwed (c : Dev nD) : CellTallies nD τ sig (HIx 1) := (K (F := F)).Otc c 0

def tDat (p : Fin 1) (c : Dev nD) : Dat τ (Elt F) (HIx 1) ℕ UU ℕ (Pipeline.pin (pcfgs (F := F)) adm p) c where
  A := tArr w b t c
  after i _ := tAfter w b c i
  Φ _ := iprop(emp)
  q _ := fullShare
  owed _ := tOwed (F := F) c
  recorded _ := {x | x.2 = none}

/-- An element of a window's one block stands in the array where it stands in the block. -/
theorem emb_blk (i : Fin cfg0.W) (u : Fin cfg0.N) (y : ((cfg0.win i).xblock (cfg0.grid.coords u)).Idx) (a : Fin (cfg0.win i).shape.rank) :
    ((((cfg0.win i).rect u).emb y a : Fin _) : ℕ) = (y a : ℕ) := by
  refine Pipeline.Window.rect_emb_val_of_index_zero (cfg0.win i) u a ?_ y
  fin_cases i <;> rfl

theorem before_w (c : Dev nD) (d) : (tDat w b t 0 c).before 0 t0_0 d = w c := by
  unfold Dat.before
  refine (if_pos (fetch0_0 t0_0)).trans ?_
  funext y
  exact congrArg (w c) (funext fun a => Fin.ext (emb_blk 0 t0_0 y a))

theorem before_b (c : Dev nD) (d) : (tDat w b t 0 c).before 1 t0_0 d = b c := by
  unfold Dat.before
  refine (if_pos (fetch0_1 t0_0)).trans ?_
  funext y
  exact congrArg (b c) (funext fun a => Fin.ext (emb_blk 1 t0_0 y a))

theorem arr_out (c : Dev nD) : (tDat w b t 0 c).arrAt 2 cfg0.N = tableOf (w c) (b c) := by
  refine (tDat w b t 0 c).arrAt_eq_of_cover 2 (tableOf (w c) (b c)) (fun u _ => ?_) fun j => ⟨t0_0, flush0_2 _, ?_⟩
  · funext y
    exact (congrArg (tableOf (w c) (b c)) (funext fun a => Fin.ext (emb_blk 2 u y a))).symm
  · have h := ((cfg0.win 2).blk t0_0).view.emb_mem_set j
    have e : ((cfg0.win 2).blk t0_0).view.emb j = j := funext fun a => Fin.ext (emb_blk 2 t0_0 j a)
    exact e ▸ h

theorem off_zero : (![0, 0] : Fin 2 → ℕ) = fun _ => 0 := by funext a; fin_cases a <;> rfl

/-- A load of all of a whole buffer reads its contents, and a store of all of it leaves the stored value. -/
theorem readAt_all (r : Ref sig .tc) {off : Fin r.ty.shape.rank → ℕ} (h : off = fun _ => 0)
    (inb : ∀ a, off a + r.ty.shape.size a ≤ r.ty.shape.size a) (f : r.ty.Contents (Elt F)) :
    View.readAt (Elt F) (Memref.whole r).view (Rect.unit off r.ty.shape.size inb).toLoadRect f = f :=
  View.ld_unit_zero h inb f

theorem writes_all (r : Ref sig .tc) {off : Fin r.ty.shape.rank → ℕ} (h : off = fun _ => 0)
    (inb : ∀ a, off a + r.ty.shape.size a ≤ r.ty.shape.size a) (f : r.ty.Contents (Elt F)) (p : r.ty.shape.Idx → Elt F r.ty.elt) :
    (Memref.whole r).view.writes (Elt F) f [⟨Rect.unit off r.ty.shape.size inb, p⟩] = p := by
  subst h
  refine (View.write_whole_slice_unit r _ _ inb f p).trans ?_
  funext i
  unfold updateSlice
  rw [dif_pos (fun a => ⟨Nat.zero_le _, by simpa using (i a).isLt⟩)]
  exact congrArg p (funext fun a => Fin.ext (Nat.sub_zero _))

/-- The kernel on its three staging buffers: the first two kept, the table left in the third. -/
theorem table_run (c : Dev nD) (x : S32x128.Idx → Elt F .f32) (y : S1x128.Idx → Elt F .f32) (z : S32x128.Idx → Elt F .f32) :
    iprop(((c.tc : Thread nD τ).loc cc0_stg0_0 ↦{fullShare} x) ∗ ((c.tc : Thread nD τ).loc cc0_stg1_0 ↦{fullShare} y)
        ∗ ((c.tc : Thread nD τ).loc cc0_stg2_0 ↦{fullShare} z))
      ⊢ (wp frame (wpE (defs₀ (F := F)) 𝒱₀ (c.tc : Thread nD τ) none) Set.univ
          (cc0__table_body (stage0_0 0) (hstage0_0 0) (stage0_1 0) (hstage0_1 0) (stage0_2 0) (hstage0_2 0))
          fun _ => iprop(((c.tc : Thread nD τ).loc cc0_stg0_0 ↦{fullShare} x) ∗ ((c.tc : Thread nD τ).loc cc0_stg1_0 ↦{fullShare} y)
            ∗ ((c.tc : Thread nD τ).loc cc0_stg2_0 ↦{fullShare} tableOf x y)) : sProp 𝕄) := by
  rw [cc0__table_body_eq_skeleton]
  unfold cc0__table_body_skel
  change iprop(((Memref.whole cc0_stg0_0).view.loc (c.tc : Thread nD τ) ↦{fullShare} x) ∗ ((Memref.whole cc0_stg1_0).view.loc (c.tc : Thread nD τ) ↦{fullShare} y)
    ∗ ((Memref.whole cc0_stg2_0).view.loc (c.tc : Thread nD τ) ↦{fullShare} z)) ⊢ _
  rw [show stage0_0 0 = Memref.whole cc0_stg0_0 from rfl, show stage0_1 0 = Memref.whole cc0_stg1_0 from rfl, show stage0_2 0 = Memref.whole cc0_stg2_0 from rfl]
  iintro ⟨H0, H1, H2⟩
  sl_exec
  sl_step
  isplitl [H0]; · iexact H0
  isplitl [H1]; · iexact H1
  rw [show View.readAt (Elt F) (Memref.whole cc0_stg0_0).view (Rect.unit (s := S32x128) ![0, 0] S32x128.size inb_S32x128_S32x128_0_0).toLoadRect x = x
      from readAt_all cc0_stg0_0 off_zero _ x,
    show View.readAt (Elt F) (Memref.whole cc0_stg1_0).view (Rect.unit (s := S1x128) ![0, 0] S1x128.size inb_S1x128_S1x128_0_0).toLoadRect y = y
      from readAt_all cc0_stg1_0 off_zero _ y,
    show (Memref.whole cc0_stg2_0).view.writes (Elt F) z [⟨Rect.unit (s := S32x128) ![0, 0] S32x128.size inb_S32x128_S32x128_0_0, k0_pay1 x y⟩] = k0_pay1 x y
      from writes_all cc0_stg2_0 off_zero _ z _]
  iexact H2

theorem body_table (c : Dev nD) : BodyObligation (tDat w b t 0 c) (defs₀ (F := F)) 𝒱₀ none Set.univ := fun u => by
  obtain rfl := fin_N0 u
  rw [bigSep_W0, bigSep_W0]
  simp only [owns_whole_eq]
  rw [show (tDat w b t 0 c).Φ (Fin.succ t0_0) = (tDat w b t 0 c).Φ (Fin.castSucc t0_0) from rfl,
    show (tDat w b t 0 c).owesAt none (Fin.succ t0_0) = (tDat w b t 0 c).owesAt none (Fin.castSucc t0_0) from rfl]
  iintro ⟨HΦ, Ho, ⟨%d0, %f0, %hf0, H0⟩, ⟨%d1, %f1, %hf1, H1⟩, ⟨%d2, %f2, -, H2⟩⟩
  replace hf0 := hf0.trans (before_w w b t c d0)
  replace hf1 := hf1.trans (before_b w b t c d1)
  subst hf0 hf1
  iapply wp_wand $$ [H0 H1 H2]
  · iapply (table_run c (w c) (b c) f2) $$ [H0 H1 H2]
    isplitl [H0]; · iexact H0
    isplitl [H1]; · iexact H1
    iexact H2
  iintro %_ ⟨H0, H1, H2⟩
  isplitl [HΦ]; · iexact HΦ
  isplitl [Ho]; · iexact Ho
  isplitl [H0]; · iexists _; isplitr; swap; (· iexact H0); ipureintro; rfl
  isplitl [H1]; · iexists _; isplitr; swap; (· iexact H1); ipureintro; rfl
  iexists _; isplitr; swap; (· iexact H2); ipureintro; rfl

/-! ## The region -/

/-- The launch theorem's calls' common program. -/
abbrev D : Defs nD τ sig (Elt F) (ΛP (F := F)) := Pipeline.defs pcfgs defs₀
abbrev 𝒱 : Variants := 𝒱₀.lift

/-- The three arrays held whole. -/
abbrev tPts (c : Dev nD) (x : S32x128.Idx → Elt F .f32) (y : S1x128.Idx → Elt F .f32) (z : S32x128.Idx → Elt F .f32) : sProp 𝕄 :=
  iprop(((SparseCore.T c).loc main_arg1 ↦{fullShare} x) ∗ ((SparseCore.T c).loc main_v0 ↦{fullShare} y) ∗ (tLoc c ↦{fullShare} z))

/-- What the TensorCore owes, with no wait recorded above the staging copies' level. -/
abbrev tOwes (c : Dev nD) : sProp 𝕄 :=
  iprop(∃ W, ⌜(K (F := F)).WBelow (SparseCore.T c) W 0⌝ ∗ owes (SparseCore.T c) (tOwed (F := F) c) W)

theorem tArrays (c : Dev nD) (x : S32x128.Idx → Elt F .f32) (y : S1x128.Idx → Elt F .f32) (z : S32x128.Idx → Elt F .f32)
    (G : (i : Fin cfg0.W) → Buf (Elt F) ((cfg0.win i).arr.view.loc (c.tc : Thread nD τ)))
    (h0 : G 0 = x) (h1 : G 1 = y) (h2 : G 2 = z) : ((tDat w b t 0 c).arrays G : sProp 𝕄) = tPts c x y z := by
  refine (Pipeline.arrays_eq (Pipeline.pin (pcfgs (F := F)) adm) (tDat w b t) 0 c launch0.arr_whole ((tDat w b t 0 c).share_full fun _ => rfl) G).trans ?_
  refine (bigSep_W0 _).trans ?_
  subst h0 h1 h2
  rfl

theorem wBelow_zero (c : Dev nD) (W : Waits sig (HIx 1)) (h : ∀ p ∈ W, p.2 = none) : (K (F := F)).WBelow (SparseCore.T c) W 0 :=
  fun p hp => by rw [h p hp]; exact Nat.le_refl _

theorem none_of_wBelow (c : Dev nD) (W : Waits sig (HIx 1)) (h : (K (F := F)).WBelow (SparseCore.T c) W 0) : ∀ p ∈ W, p.2 = none := by
  rintro ⟨g, _ | q⟩ hp
  · rfl
  · exact absurd (h _ hp) (Nat.not_le_of_lt ((K (F := F)).lev_some_pos _ q))

def region : Pipeline.RegionSeg (pcfgs (F := F)) adm (tDat w b t) none (defs₀ (F := F)) 𝒱₀ (K (F := F)).L (K (F := F)).lev 0 where
  win := launch0.win.to₀
  block_pos := block_pos0
  stage_whole := stage_whole0
  K := PEmpty
  osem k := k.elim
  ho := Pipeline.OwnSemFacts.none _
  hbody c := (body_table w b t c).loose
  hwaits c := Pipeline.cellsWaits_of_cut (Pipeline.pin (pcfgs (F := F)) adm) (tDat w b t) none 0 c 0 (tOwed (F := F) c) (fun _ => rfl)
    (fun _ _ => Finset.mem_univ _) (fun _ _ => Nat.le_refl _)
    (fun _ _ h => ⟨Finset.mem_univ _, lt_of_lt_of_le (Nat.succ_pos _) (SparseCore.Cfg.lev_of_Otc_pos h)⟩)
  pre c := iprop(tPts c (w c) (b c) (t c) ∗ tOwes (F := F) c)
  post c := iprop(tPts c (w c) (b c) (tableOf (w c) (b c)) ∗ tOwes (F := F) c)
  X _ := iprop(emp)
  Y _ := iprop(emp)
  Z _ := iprop(emp)
  hentry c := by
    rw [Pipeline.ownSems0_none, Pipeline.prefHeld_of_none _ rfl, tArrays w b t c (w c) (b c) (t c) _ rfl rfl rfl]
    iintro ⟨⟨Ha, ⟨%W, %hW, HO⟩⟩, -, -⟩
    imodintro
    isplitl [Ha]; · iexact Ha
    isplitr; · iempintro
    isplitl [HO]
    · unfold Dat.owesAt Pipeline.owesWithin
      iexists W; isplitr
      · ipureintro; exact fun p hp => Or.inl (none_of_wBelow c W hW p hp)
      iexact HO
    isplitr <;> iempintro
  hin c := by iintro -; iempintro
  hout c := by
    rw [Pipeline.ownSems0_none]
    refine BIBase.Entails.trans (PROP := sProp 𝕄) ?_ (Entails.of_eq (congrArg (fun X => iprop(emp ∗ emp ∗ X)) (scopedRest0_eq c).symm))
    iintro -
    isplitr; · iempintro
    isplitr <;> iempintro
  hexit c := by
    rw [tArrays w b t c (w c) (b c) (tableOf (w c) (b c)) _ ((tDat w b t 0 c).arrAt_in 0 rfl _) ((tDat w b t 0 c).arrAt_in 1 rfl _) (arr_out w b t c)]
    iintro ⟨Ha, HO, -, -⟩
    imodintro
    isplitl [Ha]; · iexact Ha
    unfold Dat.owesAt Pipeline.owesWithin
    icases HO with ⟨%W, %hW, HO⟩
    iexists W; isplitr
    · ipureintro
      refine wBelow_zero c W fun p hp => ?_
      rcases hW hp with h | ⟨_, _, rfl⟩
      · exact h
      · rfl
    iexact HO

/-- The call of the table kernel from @main. -/
theorem table_call [∀ e, Nonempty (Elt F e)] (c : Dev nD) (Q : PUnit → sProp 𝕄) :
    iprop((iprop(boundary (SparseCore.T c) ∗ tPts c (w c) (b c) (tableOf (w c) (b c)) ∗ tOwes (F := F) c) -∗ Q ⟨⟩)
        ∗ boundary (SparseCore.T c) ∗ (tPts c (w c) (b c) (t c) ∗ tOwes (F := F) c) ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs (D (F := F))) 𝒱 (SparseCore.T c) none) Set.univ
          (Prog.lift (.customCall (SparseCore.inner (Pipeline.entry 0)) ())) Q := by
  change _ ⊢ wp frame (wpE ((K (F := F)).defs (D (F := F))) 𝒱 (SparseCore.T c) none) Set.univ
    (SparseCore.liftProg (.op (.customCall (Pipeline.entry 0) ()) .ret)) Q
  refine BI.Entails.trans ?_ ((K (F := F)).wp_liftProg (D (F := F)) 𝒱 _ _ none _ Q)
  refine BIBase.Entails.trans (PROP := sProp 𝕄) ?_ (Pipeline.RegionSeg.wp (pcfgs (F := F)) adm (tDat w b t) none cellOf_inj EP defs₀ 𝒱₀ (K (F := F)).L (K (F := F)).lev
    (region w b t) c none (fun _ h => nomatch h) _ Q)
  have h : Q ⟨⟩ ⊢ wp frame (wpE (Pipeline.defs pcfgs defs₀) 𝒱₀.lift (c.tc : Thread nD τ) none) Set.univ (Prog.ret ⟨⟩) Q := by
    rw [wp_ret]
    iintro H; imodintro; iexact H
  exact sep_mono_left (PROP := sProp 𝕄) (wand_mono_right (PROP := sProp 𝕄) h)

end Cert.Proof.OfKernelIdeal
-- ==== Proof.KernelIdealRun.lean ====
/-
  The run of `KernelIdeal` from any memory whose index words are below 32: every fair execution ends, the three
  arguments untouched, the result `outOf` of the arguments, every counter at zero.

  @main reshapes the bias to a row, calls the table kernel, reshapes the indices to one row of lines per worker, starts
  the SparseCores, waits for them, and reshapes the rows they wrote. The index array and the output are dealt to the 32
  workers by rows, the table by shares of it.
-/
module

public import proofs.«01_k».proof.Proof.KernelIdealTable

@[expose] public section

noncomputable section

namespace Cert.Proof.OfKernelIdeal

open Cert.KernelIdeal Cert.KernelIdeal.Gen

open Idealize.ShloMosaic Idealize.ShloMosaic.TcCoe
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The values -/

/-- The result as a function of the three arguments. -/
def outOf (x : S1024x8x64.Idx → Elt F .i32) (w : S32x128.Idx → Elt F .f32) (b : S128.Idx → Elt F .f32) : S1024x8x64x128.Idx → Elt F .f32 :=
  shapeCast S1024x8x64x128 (gathered (tableOf w (shapeCast S1x128 b shapeCasts_S128_S1x128))
    (shapeCast S32x128x128 x shapeCasts_S1024x8x64_S32x128x128)) shapeCasts_S524288x128_S1024x8x64x128

variable (m : (ℓ : Loc nD τ sig) → Buf (Elt F) ℓ) (ρ : Dev nD → PrngReg)

abbrev xLoc (d : Dev nD) : Loc nD τ sig := (SparseCore.T d).loc main_arg0
abbrev wLoc (d : Dev nD) : Loc nD τ sig := (SparseCore.T d).loc main_arg1
abbrev bLoc (d : Dev nD) : Loc nD τ sig := (SparseCore.T d).loc main_arg2
abbrev rLoc (d : Dev nD) : Loc nD τ sig := (SparseCore.T d).loc main_v0
abbrev yLoc (d : Dev nD) : Loc nD τ sig := (SparseCore.T d).loc main_v4

/-- The bias row, the table, the index rows and the output before the launch. -/
abbrev rowV (d : Dev nD) : S1x128.Idx → Elt F .f32 := shapeCast S1x128 (m (bLoc d)) shapeCasts_S128_S1x128
abbrev tbV (d : Dev nD) : S32x128.Idx → Elt F .f32 := tableOf (m (wLoc d)) (rowV m d)
abbrev ixV (d : Dev nD) : S32x128x128.Idx → Elt F .i32 := shapeCast S32x128x128 (m (xLoc d)) shapeCasts_S1024x8x64_S32x128x128
abbrev oV (d : Dev nD) : S524288x128.Idx → Elt F .f32 := gathered (tbV m d) (ixV m d)
abbrev yV (d : Dev nD) : S1024x8x64x128.Idx → Elt F .f32 := outOf (m (xLoc d)) (m (wLoc d)) (m (bLoc d))

/-- What the proof asks of the launch memory. -/
def PreOK : Prop := ∀ (d : Dev nD) (j : S1024x8x64.Idx), BitVec.toNat (w := 32) (m (xLoc d) j) < 32

theorem ixV_lt (h : PreOK m) (d : Dev nD) (j : S32x128x128.Idx) : BitVec.toNat (w := 32) (ixV m d j) < 32 := h d _

/-! ## What the call takes and brings back -/

/-- The worker at SparseCore `c`, subcore `i`. -/
abbrev wNo (c : Fin ((K (F := F)).nCore 0)) (i : Fin ((K (F := F)).nSub 0)) : ℕ := 2 * i.val + c.val

abbrev goP (d : Dev nD) (w : ℕ) : sProp 𝕄 := pieceIn d (tbV m d) (ixV m d) (m (oLoc d)) w
abbrev tdP (d : Dev nD) (w : ℕ) : sProp 𝕄 := pieceIn d (tbV m d) (ixV m d) (oV m d) w

abbrev stP (d : Dev nD) (c : Fin ((K (F := F)).nCore 0)) : sProp 𝕄 := bigSep Finset.univ fun i : Fin ((K (F := F)).nSub 0) => goP m d (wNo c i)
abbrev dnP (d : Dev nD) (c : Fin ((K (F := F)).nCore 0)) : sProp 𝕄 := bigSep Finset.univ fun i : Fin ((K (F := F)).nSub 0) => tdP m d (wNo c i)

/-- Each worker its part; a sequencer its sixteen workers' parts. -/
def P : (K (F := F)).Pay (nD := nD) (Val := Elt F) (Name := ℕ) (U := UU) where
  st := fun q d c => match q with | 0 => stP m d c
  dn := fun q d c => match q with | 0 => dnP m d c
  go := fun q d c i => match q with | 0 => goP m d (wNo c i)
  td := fun q d c i => match q with | 0 => tdP m d (wNo c i)
  x := fun _ _ => iprop(emp)

instance P_storable : (P (F := F) m).IsStorable where
  st q d c := match q with | 0 => (inferInstance : BI.Storable (upEmb : UEmb _ 𝕄) (stP m d c))
  dn q d c := match q with | 0 => (inferInstance : BI.Storable (upEmb : UEmb _ 𝕄) (dnP m d c))
  go q d c i := match q with | 0 => (inferInstance : BI.Storable (upEmb : UEmb _ 𝕄) (goP m d (wNo c i)))
  td q d c i := match q with | 0 => (inferInstance : BI.Storable (upEmb : UEmb _ 𝕄) (tdP m d (wNo c i)))

theorem vecSplit : (K (F := F)).VecSplit' (P m) 0 := by
  intro d c
  show stP m d c ⊢ |={Set.univ}=> iprop(stP m d c ∗ (dnP m d c -∗ dnP m d c))
  iintro H
  imodintro
  isplitl [H]; · iexact H
  iintro H; iexact H

/-! ## The workers' obligation -/

abbrev v₀ : (𝒱).V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) : defs₀ (F := F) (.scVector c s) 1 ()
    = SparseCore.onTile hcore1 hsub1 (fun c s => cc1__sc_gather (coordsV c s) (Memref.whole main_v1_scv) (Memref.isWhole_whole _)
        (Memref.whole main_v2_scv) (Memref.isWhole_whole _) (Memref.whole main_v3_scv) (Memref.isWhole_whole _)
        (Memref.whole cc1_scratch0) (Memref.isWhole_whole _) (Memref.whole cc1_scratch1) (Memref.isWhole_whole _)
        cc1_scratch2 cc1_scoped0 cc1_scoped1) ⟨⟩ c s := rfl

theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (tbV m d) (ixV m d) (m (oLoc d)) (ixV_lt m hpre d) O W hO).trans
    (wp_mono frame _ _ fun _ => weaken_waits)

/-! ## The arrays dealt to the workers and collected -/

/-- Thirty-two workers, by SparseCore and subcore. -/
theorem bigSep_workers (Φ : ℕ → sProp 𝕄) :
    (bigSep Finset.univ fun c : Fin ((K (F := F)).nCore 0) => bigSep Finset.univ fun i : Fin ((K (F := F)).nSub 0) => Φ (wNo c i))
      = bigSep Finset.univ fun w : Fin 32 => Φ w.val := by
  refine (bigSep_univ_prod fun p : Fin 2 × Fin 16 => Φ (2 * p.2.val + p.1.val)).symm.trans ?_
  refine ((bigSep_univ_equiv ((Equiv.prodComm (Fin 2) (Fin 16)).trans (finProdFinEquiv (m := 16) (n := 2))) fun w : Fin 32 => Φ w.val).trans ?_).symm
  refine bigSep_congr fun p _ => ?_
  show Φ (p.1.val + 2 * p.2.val) = _
  rw [Nat.add_comm]

theorem iSets : (Finset.univ : Finset (Fin 32)).biUnion (fun w => iSet w.val) = Finset.univ := by
  ext j
  simp only [Finset.mem_biUnion, Finset.mem_univ, true_and, iff_true, iSet, Finset.mem_filter]
  exact ⟨(j 0 : Fin 32), rfl⟩

theorem oSets : (Finset.univ : Finset (Fin 32)).biUnion (fun w => oSet w.val) = Finset.univ := by
  ext j
  simp only [Finset.mem_biUnion, Finset.mem_univ, true_and, iff_true, oSet, Finset.mem_filter]
  have h : (j 0).val < 524288 := (j 0).isLt
  exact ⟨⟨(j 0).val / 16384, by omega⟩, rfl⟩

/-- The index rows, the table and the output: the workers' parts, and a share of the table left over. -/
theorem deal (d : Dev nD) (tb : S32x128.Idx → Elt F .f32) (ix : S32x128x128.Idx → Elt F .i32) (o : S524288x128.Idx → Elt F .f32) :
    (iprop((iLoc d ↦{fullShare} ix) ∗ (tLoc d ↦{fullShare} tb) ∗ oLoc d ↦{fullShare} o) : sProp 𝕄)
      ⊣⊢ iprop((tLoc d ↦{Transfers.shareDrop fullShare 32} tb)
          ∗ bigSep Finset.univ fun c : Fin ((K (F := F)).nCore 0) => bigSep Finset.univ fun i : Fin ((K (F := F)).nSub 0) =>
              pieceIn d tb ix o (wNo c i)) := by
  rw [bigSep_workers (F := F) fun w => pieceIn d tb ix o w, bigSep_sep', bigSep_sep']
  have hi : (iLoc d ↦{fullShare} ix : sProp 𝕄) = bigSep Finset.univ fun w : Fin 32 => iLoc d ↦[iSet w.val]{fullShare} ix := by
    rw [← pointsTo_biUnion (ℓ := iLoc d) Finset.univ (fun w : Fin 32 => iSet w.val)
      (fun w _ w' _ h => Finset.disjoint_left.mpr fun j hj hj' => h (Fin.ext ((Finset.mem_filter.mp hj).2.symm.trans (Finset.mem_filter.mp hj').2)))]
    exact congrArg (fun s => (iLoc d ↦[s]{fullShare} ix : sProp 𝕄)) iSets.symm
  have ho : (oLoc d ↦{fullShare} o : sProp 𝕄) = bigSep Finset.univ fun w : Fin 32 => oLoc d ↦[oSet w.val]{fullShare} o := by
    rw [← pointsTo_biUnion (ℓ := oLoc d) Finset.univ (fun w : Fin 32 => oSet w.val)
      (fun w _ w' _ h => Finset.disjoint_left.mpr fun j hj hj' => h (Fin.ext ((Finset.mem_filter.mp hj).2.symm.trans (Finset.mem_filter.mp hj').2)))]
    exact congrArg (fun s => (oLoc d ↦[s]{fullShare} o : sProp 𝕄)) oSets.symm
  have ht := Transfers.pointsTo_toks (nD := nD) (τ := τ) (sig := sig) (Ix := HIx 1) (Val := Elt F) (Name := ℕ) (U := UU) (Lvl := ℕ) (ℓ := tLoc d) (S := Finset.univ) (f := tb) fullShare 32
  rw [← hi, ← ho]
  constructor
  · iintro ⟨Hi, Ht, Ho⟩
    ihave Ht' := ht.1 $$ Ht
    icases Ht' with ⟨Hr, Ht⟩
    isplitl [Hr]; · iexact Hr
    isplitl [Hi]; · iexact Hi
    isplitl [Ht]; · iexact Ht
    iexact Ho
  · iintro ⟨Hr, Hi, Ht, Ho⟩
    isplitl [Hi]; · iexact Hi
    isplitl [Hr Ht]
    · iapply ht.2
      isplitl [Hr]; · iexact Hr
      iexact Ht
    iexact Ho

/-! ## The launch element of the ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What @main starts from beside its buffers: the table kernel's staging cells and tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), 1) : UP × Counters)) $$ Hu
  icases H with ⟨HH, HR⟩
  ihave H := (own_pair_emb (embR : Emb (UP × Counters) 𝕄) (initOf (Pipeline.cells (Pipeline.pin (pcfgs (F := F)) adm) cellOf_inj) (Pipeline.launchToks (Pipeline.pin (pcfgs (F := F)) adm) cellOf_inj)) 1) $$ HR
  icases H with ⟨HP, -⟩
  ihave H := (Pipeline.fund_ghost (Pipeline.pin (pcfgs (F := F)) adm) EP cellOf_inj) $$ HP
  imod H with ⟨Hc, Ht⟩
  imodintro
  isplitl [HH]; · iexact HH
  isplitl [Hc Ht]
  · rw [bigSep_sep']
    have h (Φ : Fin 1 → Dev nD → sProp 𝕄) : (bigSep Finset.univ fun c => bigSep Finset.univ fun p => Φ p c) ⊢ bigSep Finset.univ fun c => Φ 0 c :=
      Entails.of_eq (bigSep_congr fun c _ => bigSep_univ_of_subsingleton (0 : Fin 1))
    isplitl [Hc]
    · iapply (h (fun p c => Pipeline.cellsGhost (Pipeline.pin (pcfgs (F := F)) adm) EP p c)) $$ Hc
    · iapply (h (fun p c => Pipeline.toksInit (Pipeline.pin (pcfgs (F := F)) adm) EP p c)) $$ Ht
  rw [show (bigSep Finset.univ fun thr : Thread nD τ => bigSep Finset.univ fun q : Fin 1 => (P (F := F) m).x q thr) = (bigSep Finset.univ fun _ : Thread nD τ => (iprop(emp) : sProp 𝕄)) from
    bigSep_congr fun _ _ => bigSep_univ_of_subsingleton (0 : Fin 1), show (bigSep Finset.univ fun _ : Thread nD τ => (iprop(emp) : sProp 𝕄)) = iprop(emp) from bigSep_emp_const _]
  iempintro

/-! ## @main on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (wLoc d ↦{fullShare} W main_arg1) ∗ (bLoc d ↦{fullShare} W main_arg2)
      ∗ (rLoc d ↦{fullShare} W main_v0) ∗ (tLoc d ↦{fullShare} W main_v1) ∗ (iLoc d ↦{fullShare} W main_v2) ∗ (oLoc d ↦{fullShare} W main_v3)
      ∗ (yLoc d ↦{fullShare} W main_v4)) := by
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A reshape on the host, from its operand and its result's buffer. -/
theorem wp_reshape (d : Dev nD) (x y : Ref sig .tc) (he : x.ty.elt = y.ty.elt) (hn : x.ty.shape.ShapeCasts y.ty.shape) (hx hy) (hxy : x ≠ y)
    (V : Valuation τ sig (Elt F)) (Q : PUnit → sProp 𝕄) :
    iprop(boundary (SparseCore.T d) ∗ ((SparseCore.T d).loc x ↦{fullShare} V (Proc.devRef .tc x)) ∗ ((SparseCore.T d).loc y ↦{fullShare} V (Proc.devRef .tc y)))
      ⊢ iprop((iprop(boundary (SparseCore.T d) ∗ ((SparseCore.T d).loc x ↦{fullShare} V (Proc.devRef .tc x))
            ∗ ((SparseCore.T d).loc y ↦{fullShare} (fun i => he ▸ shapeCast y.ty.shape (V (Proc.devRef .tc x)) hn i))) -∗ Q ⟨⟩)
          -∗ wp frame (wpE ((K (F := F)).defs (D (F := F))) 𝒱 (SparseCore.T d) none) Set.univ
              (hlo rfl (StableHlo.reshape x y he hn hx hy) fun _ => .ret ⟨⟩) Q) := by
  have hne : (Proc.devRef .tc x : DevRef τ sig) ≠ Proc.devRef .tc y := StableHlo.devRef_ne_of_ne hxy
  have hb (V' : Valuation τ sig (Elt F)) : (bigSep (StableHlo.reshape (τ := τ) (Val := Elt F) x y he hn hx hy).bufs fun b => ((d, b) ↦{fullShare} V' b : sProp 𝕄))
      = iprop(((SparseCore.T d).loc x ↦{fullShare} V' (Proc.devRef .tc x)) ∗ ((SparseCore.T d).loc y ↦{fullShare} V' (Proc.devRef .tc y))) := by
    rw [StableHlo.reshape_bufs, SparseCore.bigSep_insert' (by rw [Finset.mem_singleton]; exact hne), bigSep_singleton]
  iintro ⟨Hb, Hx, Hy⟩ Hk
  iapply (wp_hlo 𝒱 (SparseCore.T d) none Set.univ (op := StableHlo.reshape (τ := τ) (Val := Elt F) x y he hn hx hy) (q := fun _ => fullShare) (F := V) (fun _ _ => rfl)) $$ [Hb Hx Hy]
  · isplitl [Hb]; · iexact Hb
    iapply (Entails.of_eq (hb V).symm)
    isplitl [Hx]; · iexact Hx
    iexact Hy
  iintro ⟨Hb, H⟩
  ihave H' := (Entails.of_eq (hb _)) $$ H
  icases H' with ⟨Hx, Hy⟩
  rw [StableHlo.reshape_result_ne _ _ _ _ _ _ _ hxy, StableHlo.reshape_result]
  rw [wp_ret]; imodintro
  iapply Hk
  isplitl [Hb]; · iexact Hb
  isplitl [Hx]; · iexact Hx
  iexact Hy

/-- What the TensorCore owes before the launch, lent out of the rest of its state. -/
theorem tcSt_lend (d : Dev nD) : ((K (F := F)).tcSt EH d 0 : sProp 𝕄) ⊢ iprop(tOwes d ∗ (tOwes d -∗ (K (F := F)).tcSt EH d 0)) := by
  unfold SparseCore.Cfg.tcSt
  iintro ⟨H, HR⟩
  isplitl [H]; · iexact H
  iintro H
  isplitl [H]; · iexact H
  iexact HR

/-- What @main ends with: the arguments as they were and the result at its value. -/
abbrev FIN (d : Dev nD) : sProp 𝕄 :=
  iprop((xLoc d ↦{fullShare} m (xLoc d)) ∗ (wLoc d ↦{fullShare} m (wLoc d)) ∗ (bLoc d ↦{fullShare} m (bLoc d)) ∗ (yLoc d ↦{fullShare} yV m d))

/-- The valuation the last reshape reads: the launch memory with the gathered rows in the output. -/
abbrev valO (d : Dev nD) : Valuation τ sig (Elt F) := Function.update (fun b => m (d, b)) (Proc.devRef .tc main_v3) (oV m d)

theorem valO_out (d : Dev nD) : valO m d (Proc.devRef .tc main_v3) = oV m d := Function.update_self _ _ _
theorem valO_res (d : Dev nD) : valO m d (Proc.devRef .tc main_v4) = m (yLoc d) :=
  Function.update_of_ne (StableHlo.devRef_ne_of_ne (by decide)) _ _

set_option maxRecDepth 16384 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hw, Hbi, Hr, Ht, Hi, Ho, Hy⟩, Hts, -⟩, ⟨Hcg, Htk⟩⟩
  -- the bias as a row
  iapply (wp_reshape d main_arg2 main_v0 rfl shapeCasts_S128_S1x128 _ _ (by decide) (fun b => m (d, b)) _) $$ [Hb Hbi Hr]
  · isplitl [Hb]; · iexact Hb
    isplitl [Hbi]; · iexact Hbi
    iexact Hr
  iintro ⟨Hb, Hbi, Hr⟩
  -- the table
  ihave Hst' := (tcSt_lend d) $$ Hst
  icases Hst' with ⟨How, Hst⟩
  iapply (table_call (fun c => m (wLoc c)) (fun c => rowV m c) (fun c => m (tLoc c)) d _)
  isplitr [Hb Hw Hr Ht How Hcg Htk]
  rotate_left
  · isplitl [Hb]; · iexact Hb
    isplitl [Hw Hr Ht How]
    · isplitr [How]
      · isplitl [Hw]; · iexact Hw
        isplitl [Hr]; · iexact Hr
        iexact Ht
      · iexact How
    isplitr; · iapply (SparseCore.Cfg.ctx_levAts κ); iexact Hctx
    isplitl [Hcg]; · iexact Hcg
    iexact Htk
  iintro ⟨Hb, ⟨Hw, Hr, Ht⟩, How⟩
  -- the index rows
  iapply (wp_reshape d main_arg0 main_v2 rfl shapeCasts_S1024x8x64_S32x128x128 _ _ (by decide) (fun b => m (d, b)) _) $$ [Hb Hx Hi]
  · isplitl [Hb]; · iexact Hb
    isplitl [Hx]; · iexact Hx
    iexact Hi
  iintro ⟨Hb, Hx, Hi⟩
  -- the workers
  ihave Hd := (deal d (tbV m d) (ixV m d) (m (oLoc d))).1 $$ [Hi Ht Ho]
  · isplitl [Hi]; · iexact Hi
    isplitl [Ht]; · iexact Ht
    iexact Ho
  icases Hd with ⟨Hrest, Hd⟩
  iapply ((K (F := F)).wp_run (D (F := F)) 𝒱 (EH := EH) (P := P m) κ d 0)
  isplitr; · iexact Hctx
  isplitl [How Hst]
  · iapply Hst; iexact How
  isplitl [Hd]; · iexact Hd
  iintro ⟨Hst, Hd⟩
  ihave H := (deal d (tbV m d) (ixV m d) (oV m d)).2 $$ [Hrest Hd]
  · isplitl [Hrest]; · iexact Hrest
    iexact Hd
  icases H with ⟨-, -, Ho⟩
  -- the result
  iapply (wp_reshape d main_v3 main_v4 rfl shapeCasts_S524288x128_S1024x8x64x128 _ _ (by decide) (valO m d) _) $$ [Hb Ho Hy]
  · rw [valO_out, valO_res]
    isplitl [Hb]; · iexact Hb
    isplitl [Ho]; · iexact Ho
    iexact Hy
  rw [valO_out]
  iintro ⟨Hb, -, Hy⟩
  imodintro
  isplitl [Hst]; · iexact Hst
  isplitl [Hx Hw Hbi Hy]
  · isplitl [Hx]; · iexact Hx
    isplitl [Hw]; · iexact Hw
    isplitl [Hbi]; · iexact Hbi
    iexact Hy
  isplitl [Hb] <;> iassumption

def fq (d : Dev nD) (s' : Phys nD τ sig (Elt F)) : Prop :=
  s'.mem.mem (xLoc d) = m (xLoc d) ∧ s'.mem.mem (wLoc d) = m (wLoc d) ∧ s'.mem.mem (bLoc d) = m (bLoc d) ∧ s'.mem.mem (yLoc d) = yV m d

theorem hfin (d : Dev nD) (s' : Phys nD τ sig (Elt F)) : iprop(FIN m d ∗ SI s') ⊢ (⌜fq m d s'⌝ : sProp 𝕄) := by
  have agree (ℓ : Loc nD τ sig) (f : Buf (Elt F) ℓ) : iprop(SI s' ∗ ℓ ↦{fullShare} f) ⊢ (iprop(⌜s'.mem.mem ℓ = f⌝ ∗ SI s') : sProp 𝕄) := by
    iintro H
    ihave H := (persistent_entails_right (SI_pointsTo_agree (st := s') (ℓ := ℓ) (I := Finset.univ) (q := fullShare) (f := f))) $$ H
    icases H with ⟨%h, HSI, -⟩
    isplitr
    · ipureintro; exact funext fun i => h i (Finset.mem_univ i)
    · iexact HSI
  iintro ⟨⟨Hx, Hw, Hb, Hy⟩, HSI⟩
  ihave H := (agree (xLoc d) (m (xLoc d))) $$ [HSI Hx]
  · isplitl [HSI] <;> iassumption
  icases H with ⟨%h0, HSI⟩
  ihave H := (agree (wLoc d) (m (wLoc d))) $$ [HSI Hw]
  · isplitl [HSI] <;> iassumption
  icases H with ⟨%h1, HSI⟩
  ihave H := (agree (bLoc d) (m (bLoc d))) $$ [HSI Hb]
  · isplitl [HSI] <;> iassumption
  icases H with ⟨%h2, HSI⟩
  ihave H := (agree (yLoc d) (yV m d)) $$ [HSI Hy]
  · isplitl [HSI] <;> iassumption
  icases H with ⟨%h3, -⟩
  ipureintro; exact ⟨h0, h1, h2, h3⟩

/-! ## The run -/

def QC : PUnit × MemSt nD τ sig (Elt F) → Prop := fun r =>
  (∀ c : Dev nD, r.2.mem (xLoc c) = m (xLoc c) ∧ r.2.mem (wLoc c) = m (wLoc c) ∧ r.2.mem (bLoc c) = m (bLoc c) ∧ r.2.mem (yLoc c) = yV m c) ∧ r.2.sem = fun _ => 0

theorem run_main [∀ e, Nonempty (Elt F e)] (hpre : PreOK m) : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.OfKernelIdeal
-- ==== Proof.OneHot.lean ====
/-
  The reference's result at one element: the reference sets a one in an array of zeros at (row, agent, output, word),
  multiplies by the weights and adds the bias; at words below 32 that is the weights' row that the word names, plus the
  bias.
-/
module

public import proofs.«01_k».proof.Defs
public import proofs.«01_k».proof.Proof.Gen.ReferenceIdeal
public import Idealize.ShloMosaic.Lib.Pointwise
public import Idealize.ShloMosaic.Lib.IdealHost
public import Idealize.ShloMosaic.Lib.Routing.OpsSet
public import Idealize.ShloMosaic.Lib.Routing.OpsPair

@[expose] public section

noncomputable section

namespace Cert.Proof.OneHot

open Cert.ReferenceIdeal Cert.ReferenceIdeal.Gen
open Idealize.ShloMosaic

abbrev sdims : ScatterDims S1024x8x64x32 S1024x8x64x4 S1024x8x64 := scatter_S1024x8x64x32_S1024x8x64x4_S1024x8x64_n_0123_0123_3

/-- Where the update at `k` finds word `q` of its place. -/
theorem word_place (k : S1024x8x64.Idx) (q : Fin 4) (h : sdims.scatterDimsToOperandDims.idxOf q < sdims.scatterDimsToOperandDims.length) :
    sdims.siIdx k ⟨sdims.scatterDimsToOperandDims.idxOf q, h⟩ = ix4 (k 0) (k 1) (k 2) q := by
  funext b
  fin_cases q <;> fin_cases b <;> rfl

/-- The update at `k` lands where its four words, read signed, say. -/
theorem lands (idx : IVec S1024x8x64x4 32) (k : S1024x8x64.Idx) (p : S1024x8x64x32.Idx) :
    sdims.resultIdx? k idx = some p ↔ ∀ q : Fin 4, (idx (ix4 (k 0) (k 1) (k 2) q)).toInt = ((p q).val : Int) := by
  rw [Routing.resultIdx?_eq_some]
  refine forall_congr' fun q => ?_
  have hm : q ∈ sdims.scatterDimsToOperandDims := by
    show q ∈ ([0, 1, 2, 3] : List (Fin 4))
    fin_cases q <;> decide
  have hw : sdims.window k q = 0 := by
    unfold ScatterDims.window
    exact dif_neg fun h => (of_decide_eq_true (List.mem_filter.1 h).2) hm
  have hs : sdims.start k idx q = (idx (ix4 (k 0) (k 1) (k 2) q)).toInt := by
    unfold ScatterDims.start
    rw [dif_pos hm, word_place]; rfl
  rw [hw, hs, Nat.cast_zero, add_zero]

/-- An array of words, each below zero moved up by `n`. -/
def wrapped {s : Shape} (h : S_.BroadcastsInDim s (![] : Fin 0 → Fin s.rank)) (n : BitVec 32) (v : IVec s 32) : IVec s 32 :=
  select (cmpi .slt v (broadcastInDim s ![] h (constantI S_ 32 0#32))) (addi v (broadcastInDim s ![] h (constantI S_ 32 n))) v

theorem wrapped_apply {s : Shape} (h : S_.BroadcastsInDim s (![] : Fin 0 → Fin s.rank)) (n : BitVec 32) (v : IVec s 32) (j : s.Idx)
    (hv : (v j).toNat < 2 ^ 31) : wrapped h n v j = v j :=
  Routing.wrap_of_lt (v j) _ hv

/-- The numbers of the rows, of the agents and of the outputs, and the argument's words, as the updates' places take them. -/
def rowNos : IVec S1024x8x64 32 :=
  broadcastInDim S1024x8x64 ![0, 1, 2] bcast_S1024x1x1_S1024x8x64_0_1_2
    (wrapped bcast_S_S1024x1x1 1024#32 (broadcastInDim S1024x1x1 ![0] bcast_S1024_S1024x1x1_0 (iotaInDim S1024 32 0)))
def agentNos : IVec S1024x8x64 32 :=
  broadcastInDim S1024x8x64 ![0, 1, 2] bcast_S1x8x1_S1024x8x64_0_1_2
    (wrapped bcast_S_S1x8x1 8#32 (broadcastInDim S1x8x1 ![1] bcast_S8_S1x8x1_1 (iotaInDim S8 32 0)))
def outputNos : IVec S1024x8x64 32 :=
  broadcastInDim S1024x8x64 ![0, 1, 2] bcast_S1x1x64_S1024x8x64_0_1_2
    (wrapped bcast_S_S1x1x64 64#32 (broadcastInDim S1x1x64 ![2] bcast_S64_S1x1x64_2 (iotaInDim S64 32 0)))

/-- The four words of each update's place. -/
def places (x : IVec S1024x8x64 32) : IVec S1024x8x64x4 32 :=
  concatenate S1024x8x64x4 3
    [⟨S1024x8x64x1, broadcastInDim S1024x8x64x1 ![0, 1, 2] bcast_S1024x8x64_S1024x8x64x1_0_1_2 rowNos⟩,
     ⟨S1024x8x64x1, broadcastInDim S1024x8x64x1 ![0, 1, 2] bcast_S1024x8x64_S1024x8x64x1_0_1_2 agentNos⟩,
     ⟨S1024x8x64x1, broadcastInDim S1024x8x64x1 ![0, 1, 2] bcast_S1024x8x64_S1024x8x64x1_0_1_2 outputNos⟩,
     ⟨S1024x8x64x1, broadcastInDim S1024x8x64x1 ![0, 1, 2] bcast_S1024x8x64_S1024x8x64x1_0_1_2 (wrapped bcast_S_S1024x8x64 32#32 x)⟩]
    concatenates_S1024x8x64x1_S1024x8x64x1_S1024x8x64x1_S1024x8x64x1_S1024x8x64x4_d3

/-- The one-hot array. -/
def hot (x : IVec S1024x8x64 32) : FVec Ideal S1024x8x64x32 .f32 :=
  Host.scatter sdims (fun _ b => b) (broadcastInDim S1024x8x64x32 ![] bcast_S_S1024x8x64x32 (constant S_ .f32 0x00000000#32)) (places x)
    (broadcastInDim S1024x8x64 ![] bcast_S_S1024x8x64 (constant S_ .f32 0x3F800000#32))

/-- The reference's result. -/
def out (x : IVec S1024x8x64 32) (w : FVec Ideal S32x128 .f32) (b : FVec Ideal S128 .f32) : FVec Ideal S1024x8x64x128 .f32 :=
  addf (Host.dotGeneral dot_S1024x8x64x32_S32x128_S1024x8x64x128_3_0_012_1_n_n none (hot x) w)
    (broadcastInDim S1024x8x64x128 ![0, 1, 2, 3] bcast_S1x1x1x128_S1024x8x64x128_0_1_2_3 (broadcastInDim S1x1x1x128 ![3] bcast_S128_S1x1x1x128_3 b))

theorem toInt_no (n : ℕ) (h : n < 2 ^ 31) : (BitVec.ofNat 32 n).toInt = (n : Int) := StableHlo.Predicate.toInt_ofNat_small n h

theorem toNat_no (n : ℕ) (h : n < 2 ^ 31) : (BitVec.ofNat 32 n).toNat < 2 ^ 31 := by
  rw [BitVec.toNat_ofNat]; omega

theorem rowNos_apply (i : Fin 1024) (j : Fin 8) (l : Fin 64) : (rowNos (ix3 i j l)).toInt = (i.val : Int) := by
  have e : (broadcastInDim S1024x1x1 ![0] bcast_S1024_S1024x1x1_0 (iotaInDim S1024 32 0)) (ix3 i 0 0) = BitVec.ofNat 32 i.val := by pointwise
  unfold rowNos
  pointwise
  rw [wrapped_apply _ _ _ _ (by rw [e]; exact toNat_no _ (by omega)), e]
  exact toInt_no _ (by omega)

theorem agentNos_apply (i : Fin 1024) (j : Fin 8) (l : Fin 64) : (agentNos (ix3 i j l)).toInt = (j.val : Int) := by
  have e : (broadcastInDim S1x8x1 ![1] bcast_S8_S1x8x1_1 (iotaInDim S8 32 0)) (ix3 0 j 0) = BitVec.ofNat 32 j.val := by pointwise
  unfold agentNos
  pointwise
  rw [wrapped_apply _ _ _ _ (by rw [e]; exact toNat_no _ (by omega)), e]
  exact toInt_no _ (by omega)

theorem outputNos_apply (i : Fin 1024) (j : Fin 8) (l : Fin 64) : (outputNos (ix3 i j l)).toInt = (l.val : Int) := by
  have e : (broadcastInDim S1x1x64 ![2] bcast_S64_S1x1x64_2 (iotaInDim S64 32 0)) (ix3 0 0 l) = BitVec.ofNat 32 l.val := by pointwise
  unfold outputNos
  pointwise
  rw [wrapped_apply _ _ _ _ (by rw [e]; exact toNat_no _ (by omega)), e]
  exact toInt_no _ (by omega)

/-- The four words at one place. -/
theorem places_apply (x : IVec S1024x8x64 32) (i : Fin 1024) (j : Fin 8) (l : Fin 64) :
    places x (ix4 i j l 0) = rowNos (ix3 i j l) ∧ places x (ix4 i j l 1) = agentNos (ix3 i j l)
      ∧ places x (ix4 i j l 2) = outputNos (ix3 i j l) ∧ places x (ix4 i j l 3) = wrapped bcast_S_S1024x8x64 32#32 x (ix3 i j l) := by
  unfold places
  refine ⟨?_, ?_, ?_, ?_⟩ <;> pointwise

/-- The update at `(i, j, l)` lands at `(i', j', l', q)` when they agree on the first three axes and its word is `q`. -/
theorem lands_iff (x : IVec S1024x8x64 32) (hx : ∀ j, (x j).toNat < 32) (i i' : Fin 1024) (j j' : Fin 8) (l l' : Fin 64) (q : Fin 32) :
    sdims.resultIdx? (ix3 i j l) (places x) = some (ix4 i' j' l' q)
      ↔ i = i' ∧ j = j' ∧ l = l' ∧ (x (ix3 i j l)).toNat = q.val := by
  obtain ⟨h0, h1, h2, h3⟩ := places_apply x i j l
  have hxk := hx (ix3 i j l)
  have h0' := (congrArg BitVec.toInt h0).trans (rowNos_apply i j l)
  have h1' := (congrArg BitVec.toInt h1).trans (agentNos_apply i j l)
  have h2' := (congrArg BitVec.toInt h2).trans (outputNos_apply i j l)
  have h3' : (places x (ix4 i j l 3)).toInt = ((x (ix3 i j l)).toNat : Int) := by
    rw [h3, wrapped_apply _ _ _ _ (by omega), BitVec.toInt_eq_toNat_of_lt (by omega)]
  refine (lands _ _ _).trans ⟨fun h => ?_, ?_⟩
  · have e0 : (i.val : Int) = i'.val := h0'.symm.trans (h 0)
    have e1 : (j.val : Int) = j'.val := h1'.symm.trans (h 1)
    have e2 : (l.val : Int) = l'.val := h2'.symm.trans (h 2)
    have e3 : ((x (ix3 i j l)).toNat : Int) = q.val := h3'.symm.trans (h 3)
    exact ⟨Fin.ext (by omega), Fin.ext (by omega), Fin.ext (by omega), by omega⟩
  · rintro ⟨rfl, rfl, rfl, e3⟩ a
    match a with
    | 0 => exact h0'
    | 1 => exact h1'
    | 2 => exact h2'
    | 3 => exact h3'.trans (congrArg Nat.cast e3)

/-- The one-hot array at one element. -/
theorem hot_apply (x : IVec S1024x8x64 32) (hx : ∀ j, (x j).toNat < 32) (i : Fin 1024) (j : Fin 8) (l : Fin 64) (q : Fin 32) :
    hot x (ix4 i j l q) = if (x (ix3 i j l)).toNat = q.val then 1 else 0 := by
  unfold hot
  split
  · next h =>
    refine Routing.scatter_set_hit sdims _ _ _ _ 1 (fun k _ => ?_) (ix3 i j l) ((lands_iff x hx _ _ _ _ _ _ _).2 ⟨rfl, rfl, rfl, h⟩)
    pointwise
  · next h =>
    refine (Routing.scatter_set_miss sdims _ _ _ _ fun k hk => ?_).trans (by pointwise)
    rw [eq_ix3 k] at hk
    obtain ⟨rfl, rfl, rfl, e3⟩ := (lands_iff x hx _ _ _ _ _ _ _).1 hk
    exact h e3

/-- The result at one element: the row of the weights that the word names, plus the bias. -/
theorem out_apply (x : IVec S1024x8x64 32) (hx : ∀ j, (x j).toNat < 32) (w : FVec Ideal S32x128 .f32) (b : FVec Ideal S128 .f32)
    (i : Fin 1024) (j : Fin 8) (l : Fin 64) (c : Fin 128) :
    out x w b (ix4 i j l c) = FloatOps.addf (w (ix2 ⟨(x (ix3 i j l)).toNat, hx _⟩ c)) (b (ix1 c)) := by
  unfold out
  pointwise
  refine congrArg (· + b (ix1 c)) ?_
  rw [Finset.sum_eq_single (⟨(x (ix3 i j l)).toNat, hx _⟩ : Fin 32)]
  · rw [hot_apply x hx, if_pos rfl, one_mul]
  · intro q _ hq
    rw [hot_apply x hx, if_neg fun h => hq (Fin.ext h.symm), zero_mul]
  · intro h; exact absurd (Finset.mem_univ _) h

end Cert.Proof.OneHot
-- ==== Proof.Rows.lean ====
/-
  What the two programs have in common. The precondition bounds every word below 32, and at such words the kernel's
  result is the reference's: at (row, agent, output, feature) both are the weights' entry in the row that the word names,
  plus the bias of the feature.
-/
module

public import proofs.«01_k».proof.Proof.KernelIdealRun
public import proofs.«01_k».proof.Proof.OneHot
public import proofs.«01_k».proof.Proof.Gen.Pre_index_in_range
public import Idealize.ShloMosaic.Lib.ReduceAll

@[expose] public section

noncomputable section

namespace Cert.Proof.Rows

open Idealize.ShloMosaic

/-! ## The precondition -/

/-- A word between 0 and 32 as signed numbers go is below 32 as an unsigned one. -/
theorem small_of_between (v : BitVec 32) (h : IntOp.andi (IntOp.cmpi .sge v 0#32) (IntOp.cmpi .slt v 32#32) = 1#1) : v.toNat < 32 := by
  obtain ⟨hl, hr⟩ := IntOp.andi_eq_one.1 h
  have ofBool_one : ∀ p : Bool, BitVec.ofBool p = 1#1 → p = true := by decide
  have hl := ofBool_one _ hl
  have hr := ofBool_one _ hr
  simp only [BitVec.sle_eq_decide, BitVec.slt_eq_decide, decide_eq_true_eq, BitVec.toInt_eq_toNat_cond, BitVec.toNat_ofNat] at hl hr
  omega

section Words
open Cert.Pre_index_in_range

instance : Subsingleton S_.Idx := ⟨fun _ _ => funext fun a => a.elim0⟩

/-- Where the precondition holds, every word is below 32. -/
theorem small_of_pre {F : FTy → Type} [FloatOps F] (x : IVec S1024x8x64 32) (w : FVec F S32x128 .f32) (b : FVec F S128 .f32)
    (h : Cert.Pre_index_in_range.fn x w b = fun _ => 1#1) (k : S1024x8x64.Idx) : (x k).toNat < 32 :=
  small_of_between _ (Host.reduce_andi_all _ _ _ _ (fun a => a.elim0) (congrFun h _) k)

end Words

/-! ## The kernel's result at one element -/

open Cert.KernelIdeal Cert.KernelIdeal.Gen
open Cert.Proof.OfKernelIdeal (gathered tableOf outOf rowOfWord wordIx)

/-- The table at one element. -/
theorem table_apply {F : FTy → Type} [FloatOps F] (w : FVec F S32x128 .f32) (b : FVec F S128 .f32) (q : Fin 32) (c : Fin 128) :
    tableOf w (shapeCast S1x128 b shapeCasts_S128_S1x128) (ix2 q c) = FloatOps.addf (w (ix2 q c)) (b (ix1 c)) := by
  unfold tableOf k0_pay1
  pointwise

/-- The number of the output row at `(i, j, l)`. -/
def rowNo (i : Fin 1024) (j : Fin 8) (l : Fin 64) : Fin 524288 := ⟨(i.val * 8 + j.val) * 64 + l.val, by omega⟩

/-- The word of that row is the word at `(i, j, l)`. -/
theorem word_apply (x : IVec S1024x8x64 32) (i : Fin 1024) (j : Fin 8) (l : Fin 64) :
    shapeCast S32x128x128 x shapeCasts_S1024x8x64_S32x128x128 (wordIx (rowNo i j l)) = x (ix3 i j l) := by
  refine shapeCast_apply x _ _ _ ?_
  rw [Shape.rowMajor_val_three, Shape.rowMajor_val_three]
  show (i.val * 8 + j.val) * 64 + l.val
    = (((i.val * 8 + j.val) * 64 + l.val) / 16384 * 128 + ((i.val * 8 + j.val) * 64 + l.val) % 16384 / 128) * 128
      + ((i.val * 8 + j.val) * 64 + l.val) % 128
  omega

/-- The kernel's result at one element. -/
theorem outOf_apply {F : FTy → Type} [FloatOps F] (x : IVec S1024x8x64 32) (hx : ∀ k, (x k).toNat < 32) (w : FVec F S32x128 .f32)
    (b : FVec F S128 .f32) (i : Fin 1024) (j : Fin 8) (l : Fin 64) (c : Fin 128) :
    outOf x w b (ix4 i j l c) = FloatOps.addf (w (ix2 ⟨(x (ix3 i j l)).toNat, hx _⟩ c)) (b (ix1 c)) := by
  have hcast : outOf x w b (ix4 i j l c)
      = gathered (tableOf w (shapeCast S1x128 b shapeCasts_S128_S1x128)) (shapeCast S32x128x128 x shapeCasts_S1024x8x64_S32x128x128)
          (ix2 (rowNo i j l) c) := by
    refine shapeCast_apply _ _ _ _ ?_
    rw [Shape.rowMajor_val_two, Shape.rowMajor_val_four]
    rfl
  have hrow : rowOfWord (shapeCast S32x128x128 x shapeCasts_S1024x8x64_S32x128x128 (wordIx (rowNo i j l)))
      = ⟨(x (ix3 i j l)).toNat, hx _⟩ := by
    rw [word_apply]
    exact Fin.ext (Nat.mod_eq_of_lt (hx _))
  refine hcast.trans (.trans ?_ (table_apply w b _ c))
  refine congrArg (tableOf w _) (.trans (congrArg (fun q => ValueIdx.ix2 q c) hrow) ?_)
  exact (ValueIdx.eq_ix2 _).symm

/-! ## The two results -/

/-- The kernel computes what the reference computes. -/
theorem outOf_eq_out (x : IVec S1024x8x64 32) (hx : ∀ k, (x k).toNat < 32) (w : FVec Ideal S32x128 .f32) (b : FVec Ideal S128 .f32) :
    outOf (F := Ideal) x w b = OneHot.out x w b := by
  funext p
  rw [eq_ix4 p]
  exact (outOf_apply x hx w b _ _ _ _).trans (OneHot.out_apply x hx w b _ _ _ _).symm

end Cert.Proof.Rows
-- ==== Proof.lean ====
/-
  The proof of `Cert.Claim` (proofs.«01_k».proof.Defs). The kernel's runs, over the machine's floats and over the ideal
  ones, are `OfKernel.run_main` and `OfKernelIdeal.run_main`: the same proof, whose final memory is known. The frames are
  those runs with the values dropped; the equation of the two programs is the second run, the reference's run, and
  `Rows.outOf_eq_out`. The precondition is read once, in `Rows.small_of_pre`.
-/
module

public import proofs.«01_k».proof.Defs
public import proofs.«01_k».proof.Proof.KernelRun
public import proofs.«01_k».proof.Proof.KernelIdealRun
public import proofs.«01_k».proof.Proof.Rows
public import proofs.«01_k».proof.Proof.Gen.ReferenceIdeal.Run

@[expose] public section

noncomputable section

namespace Cert.Proof

open Idealize.ShloMosaic Idealize.SL.Sem

/-- The kernel over the machine's floats. -/
theorem frame_kernel : Cert.quiescent_Kernel := fun m ρ hpre =>
  (θ_run Cert.Kernel.defs _ _).mono (fun _ h => ⟨fun c => ⟨(h.1 c).1, (h.1 c).2.1, (h.1 c).2.2.1⟩, h.2⟩)
    (OfKernel.run_main (F := Bits) m ρ fun d => Rows.small_of_pre _ _ _ (hpre d))

/-- The kernel over the ideal floats. -/
theorem frame_kernelIdeal : Cert.quiescent_KernelIdeal := fun m ρ hpre =>
  (θ_run Cert.KernelIdeal.defs _ _).mono (fun _ h => ⟨fun c => ⟨(h.1 c).1, (h.1 c).2.1, (h.1 c).2.2.1⟩, h.2⟩)
    (OfKernelIdeal.run_main (F := Ideal) m ρ fun d => Rows.small_of_pre _ _ _ (hpre d))

/-- The reference, at every input. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with equal results. -/
theorem equal : Cert.algebraic_KernelIdeal_ReferenceIdeal := fun m ρ m' ρ' hpre hag => by
  have hx : ∀ d j, BitVec.toNat (w := 32) (m (OfKernelIdeal.xLoc d) j) < 32 := fun d => Rows.small_of_pre _ _ _ (hpre d)
  refine ⟨OfKernelIdeal.yV m, ?_, ?_⟩
  · exact (θ_run Cert.KernelIdeal.defs _ _).mono
      (fun _ h c => ⟨(h.1 c).2.2.2, (h.1 c).1, (h.1 c).2.1, (h.1 c).2.2.1⟩) (OfKernelIdeal.run_main (F := Ideal) m ρ hx)
  · refine (θ_run Cert.ReferenceIdeal.defs _ _).mono (fun _ h c => ⟨(h c).1.trans ?_, (h c).2⟩)
      (Cert.ReferenceIdeal.Value.run (F := Ideal) m' ρ')
    rw [(hag c).1, (hag c).2.1, (hag c).2.2]
    exact (Rows.outOf_eq_out _ (hx c) _ _).symm

theorem claim : Cert.Claim := ⟨Cert.Kernel.Gen.facts, Cert.KernelIdeal.Gen.facts, Cert.ReferenceIdeal.Gen.facts, Cert.Pre_index_in_range.Gen.facts,
  frame_kernel, frame_kernelIdeal, frame_reference, fun m ρ _ => frame_reference m ρ trivial, trivial, equal⟩

end Cert.Proof

end
